-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "root_two" .f32 0x3FB504F3#32 ((Real.sqrt 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x32 : Shape := ⟨2, ![100000, 32]⟩
abbrev S1000x32 : Shape := ⟨2, ![1000, 32]⟩
abbrev S16384 : Shape := ⟨1, ![16384]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S16384x1 : Shape := ⟨2, ![16384, 1]⟩
abbrev S1x1 : Shape := ⟨2, ![1, 1]⟩
abbrev S16384x32 : Shape := ⟨2, ![16384, 32]⟩
abbrev S1x524288 : Shape := ⟨2, ![1, 524288]⟩
abbrev S16x524288 : Shape := ⟨2, ![16, 524288]⟩
abbrev S1x4096 : Shape := ⟨2, ![1, 4096]⟩
abbrev S16x4096 : Shape := ⟨2, ![16, 4096]⟩
abbrev S16x16384x32 : Shape := ⟨3, ![16, 16384, 32]⟩

abbrev nBuf : Space → Nat
  | .hbm => 358
  | .vmem => 12
  | .smem => 2
  | _ => 0

abbrev hbmTy0_0 (i : Nat) : BufTy := match i % 128 with
  | 0 => ⟨S100000x32, .f32⟩
  | 1 => ⟨S100000x32, .f32⟩
  | 2 => ⟨S1000x32, .f32⟩
  | 3 => ⟨S1000x32, .f32⟩
  | 4 => ⟨S16384, .i32⟩
  | 5 => ⟨S16384, .i32⟩
  | 6 => ⟨S_, .i32⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S_, .i32⟩
  | 14 => ⟨S1, .i32⟩
  | 15 => ⟨S2, .i32⟩
  | 16 => ⟨S1, .i32⟩
  | 17 => ⟨S_, .i32⟩
  | 18 => ⟨S1, .i32⟩
  | 19 => ⟨S_, .i32⟩
  | 20 => ⟨S2, .i64⟩
  | 21 => ⟨S_, .i64⟩
  | 22 => ⟨S2, .i64⟩
  | 23 => ⟨S2, .i64⟩
  | 24 => ⟨S_, .i64⟩
  | 25 => ⟨S2, .i64⟩
  | 26 => ⟨S2, .i64⟩
  | 27 => ⟨S2, .i32⟩
  | 28 => ⟨S2, .i32⟩
  | 29 => ⟨S_, .i32⟩
  | 30 => ⟨S_, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S100000x32, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S2x1, .i32⟩
  | 124 => ⟨S2x1, .i32⟩
  | 125 => ⟨S2x2, .i32⟩
  | 126 => ⟨S1x2, .i32⟩
  | 127 => ⟨S2, .i32⟩
  | _ => ⟨S100000x32, .f32⟩

abbrev hbmTy0_2 (i : Nat) : BufTy := match i % 128 with
  | 0 => ⟨S1x2, .i32⟩
  | 1 => ⟨S2, .i32⟩
  | 2 => ⟨S_, .i32⟩
  | 3 => ⟨S16384, .i32⟩
  | 4 => ⟨S16384, .i1⟩
  | 5 => ⟨S_, .i32⟩
  | 6 => ⟨S16384, .i32⟩
  | 7 => ⟨S16384, .i32⟩
  | 8 => ⟨S16384, .i32⟩
  | 9 => ⟨S16384x1, .i32⟩
  | 10 => ⟨S1, .i32⟩
  | 11 => ⟨S_, .i32⟩
  | 12 => ⟨S16384x1, .i32⟩
  | 13 => ⟨S16384x1, .i1⟩
  | 14 => ⟨S1x1, .i32⟩
  | 15 => ⟨S16384x1, .i32⟩
  | 16 => ⟨S16384x1, .i1⟩
  | 17 => ⟨S16384x1, .i1⟩
  | 18 => ⟨S_, .i1⟩
  | 19 => ⟨S16384, .i1⟩
  | 20 => ⟨S16384x32, .f32⟩
  | 21 => ⟨S16384x32, .i1⟩
  | 22 => ⟨S_, .f32⟩
  | 23 => ⟨S16384x32, .f32⟩
  | 24 => ⟨S16384x32, .f32⟩
  | 25 => ⟨S1x524288, .f32⟩
  | 26 => ⟨S_, .i32⟩
  | 27 => ⟨S16384, .i32⟩
  | 28 => ⟨S16384, .i1⟩
  | 29 => ⟨S_, .i32⟩
  | 30 => ⟨S16384, .i32⟩
  | 31 => ⟨S16384, .i32⟩
  | 32 => ⟨S16384, .i32⟩
  | 33 => ⟨S16384x1, .i32⟩
  | 34 => ⟨S1, .i32⟩
  | 35 => ⟨S_, .i32⟩
  | 36 => ⟨S16384x1, .i32⟩
  | 37 => ⟨S16384x1, .i1⟩
  | 38 => ⟨S1x1, .i32⟩
  | 39 => ⟨S16384x1, .i32⟩
  | 40 => ⟨S16384x1, .i1⟩
  | 41 => ⟨S16384x1, .i1⟩
  | 42 => ⟨S_, .i1⟩
  | 43 => ⟨S16384, .i1⟩
  | 44 => ⟨S16384x32, .f32⟩
  | 45 => ⟨S16384x32, .i1⟩
  | 46 => ⟨S_, .f32⟩
  | 47 => ⟨S16384x32, .f32⟩
  | 48 => ⟨S16384x32, .f32⟩
  | 49 => ⟨S1x524288, .f32⟩
  | 50 => ⟨S_, .i32⟩
  | 51 => ⟨S16384, .i32⟩
  | 52 => ⟨S16384, .i1⟩
  | 53 => ⟨S_, .i32⟩
  | 54 => ⟨S16384, .i32⟩
  | 55 => ⟨S16384, .i32⟩
  | 56 => ⟨S16384, .i32⟩
  | 57 => ⟨S16384x1, .i32⟩
  | 58 => ⟨S1, .i32⟩
  | 59 => ⟨S_, .i32⟩
  | 60 => ⟨S16384x1, .i32⟩
  | 61 => ⟨S16384x1, .i1⟩
  | 62 => ⟨S1x1, .i32⟩
  | 63 => ⟨S16384x1, .i32⟩
  | 64 => ⟨S16384x1, .i1⟩
  | 65 => ⟨S16384x1, .i1⟩
  | 66 => ⟨S_, .i1⟩
  | 67 => ⟨S16384, .i1⟩
  | 68 => ⟨S16384x32, .f32⟩
  | 69 => ⟨S16384x32, .i1⟩
  | 70 => ⟨S_, .f32⟩
  | 71 => ⟨S16384x32, .f32⟩
  | 72 => ⟨S16384x32, .f32⟩
  | 73 => ⟨S1x524288, .f32⟩
  | 74 => ⟨S_, .i32⟩
  | 75 => ⟨S16384, .i32⟩
  | 76 => ⟨S16384, .i1⟩
  | 77 => ⟨S_, .i32⟩
  | 78 => ⟨S16384, .i32⟩
  | 79 => ⟨S16384, .i32⟩
  | 80 => ⟨S16384, .i32⟩
  | 81 => ⟨S16384x1, .i32⟩
  | 82 => ⟨S1, .i32⟩
  | 83 => ⟨S_, .i32⟩
  | 84 => ⟨S16384x1, .i32⟩
  | 85 => ⟨S16384x1, .i1⟩
  | 86 => ⟨S1x1, .i32⟩
  | 87 => ⟨S16384x1, .i32⟩
  | 88 => ⟨S16384x1, .i1⟩
  | 89 => ⟨S16384x1, .i1⟩
  | 90 => ⟨S_, .i1⟩
  | 91 => ⟨S16384, .i1⟩
  | 92 => ⟨S16384x32, .f32⟩
  | 93 => ⟨S16384x32, .i1⟩
  | 94 => ⟨S_, .f32⟩
  | 95 => ⟨S16384x32, .f32⟩
  | 96 => ⟨S16384x32, .f32⟩
  | 97 => ⟨S1x524288, .f32⟩
  | 98 => ⟨S16x524288, .f32⟩
  | 99 => ⟨S16x16384x32, .f32⟩
  | 100 => ⟨S16x524288, .f32⟩
  | 101 => ⟨S16x16384x32, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S1x4096, .f32⟩
  | .local _ .vmem, ⟨4, _⟩ => ⟨S16x4096, .f32⟩
  | .local _ .vmem, ⟨5, _⟩ => ⟨S16x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S1x4096, .f32⟩
  | .local _ .vmem, ⟨10, _⟩ => ⟨S16x4096, .f32⟩
  | .local _ .vmem, ⟨11, _⟩ => ⟨S16x4096, .f32⟩
  | .local _ .smem, ⟨0, _⟩ => ⟨S2, .i32⟩
  | .local _ .smem, ⟨1, _⟩ => ⟨S2, .i32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c : Ref sig .tc := ⟨.hbm, 21, rfl⟩
abbrev main_call0_v5 : Ref sig .tc := ⟨.hbm, 22, rfl⟩
abbrev main_call0_v6 : Ref sig .tc := ⟨.hbm, 23, rfl⟩
abbrev main_call0_c_0 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_call0_v0 : Ref sig .tc := ⟨.hbm, 29, rfl⟩
abbrev main_call0_call0_c : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_c_0 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_c_1 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_call0_v12 : Ref sig .tc := ⟨.hbm, 44, rfl⟩
abbrev main_call0_call0_v13 : Ref sig .tc := ⟨.hbm, 45, rfl⟩
abbrev main_call0_call0_c_2 : Ref sig .tc := ⟨.hbm, 46, rfl⟩
abbrev main_call0_call0_v14 : Ref sig .tc := ⟨.hbm, 47, rfl⟩
abbrev main_call0_call0_v15 : Ref sig .tc := ⟨.hbm, 48, rfl⟩
abbrev main_call0_call0_c_3 : Ref sig .tc := ⟨.hbm, 49, rfl⟩
abbrev main_call0_call0_v16 : Ref sig .tc := ⟨.hbm, 50, rfl⟩
abbrev main_call0_call0_v17 : Ref sig .tc := ⟨.hbm, 51, rfl⟩
abbrev main_call0_call0_v18 : Ref sig .tc := ⟨.hbm, 52, rfl⟩
abbrev main_call0_call0_v19 : Ref sig .tc := ⟨.hbm, 53, rfl⟩
abbrev main_call0_call0_v20 : Ref sig .tc := ⟨.hbm, 54, rfl⟩
abbrev main_call0_call0_c_4 : Ref sig .tc := ⟨.hbm, 55, rfl⟩
abbrev main_call0_call0_v21 : Ref sig .tc := ⟨.hbm, 56, rfl⟩
abbrev main_call0_call0_v22 : Ref sig .tc := ⟨.hbm, 57, rfl⟩
abbrev main_call0_call0_c_5 : Ref sig .tc := ⟨.hbm, 58, rfl⟩
abbrev main_call0_call0_v23 : Ref sig .tc := ⟨.hbm, 59, rfl⟩
abbrev main_call0_call0_v24 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_v27 : Ref sig .tc := ⟨.hbm, 63, rfl⟩
abbrev main_call0_call0_c_6 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_c_7 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_v32 : Ref sig .tc := ⟨.hbm, 70, rfl⟩
abbrev main_call0_call0_v33 : Ref sig .tc := ⟨.hbm, 71, rfl⟩
abbrev main_call0_call0_v34 : Ref sig .tc := ⟨.hbm, 72, rfl⟩
abbrev main_call0_call0_v35 : Ref sig .tc := ⟨.hbm, 73, rfl⟩
abbrev main_call0_call0_v36 : Ref sig .tc := ⟨.hbm, 74, rfl⟩
abbrev main_call0_call0_v37 : Ref sig .tc := ⟨.hbm, 75, rfl⟩
abbrev main_call0_call0_c_8 : Ref sig .tc := ⟨.hbm, 76, rfl⟩
abbrev main_call0_call0_v38 : Ref sig .tc := ⟨.hbm, 77, rfl⟩
abbrev main_call0_call0_v39 : Ref sig .tc := ⟨.hbm, 78, rfl⟩
abbrev main_call0_call0_v40 : Ref sig .tc := ⟨.hbm, 79, rfl⟩
abbrev main_call0_call0_c_9 : Ref sig .tc := ⟨.hbm, 80, rfl⟩
abbrev main_call0_call0_v41 : Ref sig .tc := ⟨.hbm, 81, rfl⟩
abbrev main_call0_call0_v42 : Ref sig .tc := ⟨.hbm, 82, rfl⟩
abbrev main_call0_call0_c_10 : Ref sig .tc := ⟨.hbm, 83, rfl⟩
abbrev main_call0_call0_v43 : Ref sig .tc := ⟨.hbm, 84, rfl⟩
abbrev main_call0_call0_v44 : Ref sig .tc := ⟨.hbm, 85, rfl⟩
abbrev main_call0_call0_v45 : Ref sig .tc := ⟨.hbm, 86, rfl⟩
abbrev main_call0_call0_v46 : Ref sig .tc := ⟨.hbm, 87, rfl⟩
abbrev main_call0_call0_v47 : Ref sig .tc := ⟨.hbm, 88, rfl⟩
abbrev main_call0_call0_c_11 : Ref sig .tc := ⟨.hbm, 89, rfl⟩
abbrev main_call0_call0_v48 : Ref sig .tc := ⟨.hbm, 90, rfl⟩
abbrev main_call0_call0_v49 : Ref sig .tc := ⟨.hbm, 91, rfl⟩
abbrev main_call0_call0_c_12 : Ref sig .tc := ⟨.hbm, 92, rfl⟩
abbrev main_call0_call0_v50 : Ref sig .tc := ⟨.hbm, 93, rfl⟩
abbrev main_call0_call0_v51 : Ref sig .tc := ⟨.hbm, 94, rfl⟩
abbrev main_call0_call0_v52 : Ref sig .tc := ⟨.hbm, 95, rfl⟩
abbrev main_call0_call0_v53 : Ref sig .tc := ⟨.hbm, 96, rfl⟩
abbrev main_call0_call0_v54 : Ref sig .tc := ⟨.hbm, 97, rfl⟩
abbrev main_call0_call0_c_13 : Ref sig .tc := ⟨.hbm, 98, rfl⟩
abbrev main_call0_call0_v55 : Ref sig .tc := ⟨.hbm, 99, rfl⟩
abbrev main_call0_call0_v56 : Ref sig .tc := ⟨.hbm, 100, rfl⟩
abbrev main_call0_call0_c_14 : Ref sig .tc := ⟨.hbm, 101, rfl⟩
abbrev main_call0_call0_v57 : Ref sig .tc := ⟨.hbm, 102, rfl⟩
abbrev main_call0_call0_v58 : Ref sig .tc := ⟨.hbm, 103, rfl⟩
abbrev main_call0_call0_v59 : Ref sig .tc := ⟨.hbm, 104, rfl⟩
abbrev main_call0_call0_v60 : Ref sig .tc := ⟨.hbm, 105, rfl⟩
abbrev main_call0_call0_v61 : Ref sig .tc := ⟨.hbm, 106, rfl⟩
abbrev main_call0_call0_c_15 : Ref sig .tc := ⟨.hbm, 107, rfl⟩
abbrev main_call0_call0_v62 : Ref sig .tc := ⟨.hbm, 108, rfl⟩
abbrev main_call0_call0_v63 : Ref sig .tc := ⟨.hbm, 109, rfl⟩
abbrev main_call0_call0_c_16 : Ref sig .tc := ⟨.hbm, 110, rfl⟩
abbrev main_call0_call0_v64 : Ref sig .tc := ⟨.hbm, 111, rfl⟩
abbrev main_call0_call0_v65 : Ref sig .tc := ⟨.hbm, 112, rfl⟩
abbrev main_call0_call0_v66 : Ref sig .tc := ⟨.hbm, 113, rfl⟩
abbrev main_call0_call0_v67 : Ref sig .tc := ⟨.hbm, 114, rfl⟩
abbrev main_call0_call0_v68 : Ref sig .tc := ⟨.hbm, 115, rfl⟩
abbrev main_call0_call0_v69 : Ref sig .tc := ⟨.hbm, 116, rfl⟩
abbrev main_call0_call0_v70 : Ref sig .tc := ⟨.hbm, 117, rfl⟩
abbrev main_call0_call0_v71 : Ref sig .tc := ⟨.hbm, 118, rfl⟩
abbrev main_call0_call0_c_17 : Ref sig .tc := ⟨.hbm, 119, rfl⟩
abbrev main_call0_call0_v72 : Ref sig .tc := ⟨.hbm, 120, rfl⟩
abbrev main_call0_call0_v73 : Ref sig .tc := ⟨.hbm, 121, rfl⟩
abbrev main_call0_call0_v74 : Ref sig .tc := ⟨.hbm, 122, rfl⟩
abbrev main_call0_call0_c_18 : Ref sig .tc := ⟨.hbm, 123, rfl⟩
abbrev main_call0_call0_v75 : Ref sig .tc := ⟨.hbm, 124, rfl⟩
abbrev main_call0_call0_v76 : Ref sig .tc := ⟨.hbm, 125, rfl⟩
abbrev main_call0_call0_c_19 : Ref sig .tc := ⟨.hbm, 126, rfl⟩
abbrev main_call0_call0_v77 : Ref sig .tc := ⟨.hbm, 127, rfl⟩
abbrev main_call0_call0_v78 : Ref sig .tc := ⟨.hbm, 128, rfl⟩
abbrev main_call0_call0_v79 : Ref sig .tc := ⟨.hbm, 129, rfl⟩
abbrev main_call0_call0_v80 : Ref sig .tc := ⟨.hbm, 130, rfl⟩
abbrev main_call0_call0_v81 : Ref sig .tc := ⟨.hbm, 131, rfl⟩
abbrev main_call0_call0_c_20 : Ref sig .tc := ⟨.hbm, 132, rfl⟩
abbrev main_call0_call0_v82 : Ref sig .tc := ⟨.hbm, 133, rfl⟩
abbrev main_call0_call0_v83 : Ref sig .tc := ⟨.hbm, 134, rfl⟩
abbrev main_call0_call0_c_21 : Ref sig .tc := ⟨.hbm, 135, rfl⟩
abbrev main_call0_call0_v84 : Ref sig .tc := ⟨.hbm, 136, rfl⟩
abbrev main_call0_call0_v85 : Ref sig .tc := ⟨.hbm, 137, rfl⟩
abbrev main_call0_call0_v86 : Ref sig .tc := ⟨.hbm, 138, rfl⟩
abbrev main_call0_call0_v87 : Ref sig .tc := ⟨.hbm, 139, rfl⟩
abbrev main_call0_call0_v88 : Ref sig .tc := ⟨.hbm, 140, rfl⟩
abbrev main_call0_call0_c_22 : Ref sig .tc := ⟨.hbm, 141, rfl⟩
abbrev main_call0_call0_v89 : Ref sig .tc := ⟨.hbm, 142, rfl⟩
abbrev main_call0_call0_v90 : Ref sig .tc := ⟨.hbm, 143, rfl⟩
abbrev main_call0_call0_c_23 : Ref sig .tc := ⟨.hbm, 144, rfl⟩
abbrev main_call0_call0_v91 : Ref sig .tc := ⟨.hbm, 145, rfl⟩
abbrev main_call0_call0_v92 : Ref sig .tc := ⟨.hbm, 146, rfl⟩
abbrev main_call0_call0_v93 : Ref sig .tc := ⟨.hbm, 147, rfl⟩
abbrev main_call0_call0_v94 : Ref sig .tc := ⟨.hbm, 148, rfl⟩
abbrev main_call0_call0_v95 : Ref sig .tc := ⟨.hbm, 149, rfl⟩
abbrev main_call0_call0_c_24 : Ref sig .tc := ⟨.hbm, 150, rfl⟩
abbrev main_call0_call0_v96 : Ref sig .tc := ⟨.hbm, 151, rfl⟩
abbrev main_call0_call0_v97 : Ref sig .tc := ⟨.hbm, 152, rfl⟩
abbrev main_call0_call0_c_25 : Ref sig .tc := ⟨.hbm, 153, rfl⟩
abbrev main_call0_call0_v98 : Ref sig .tc := ⟨.hbm, 154, rfl⟩
abbrev main_call0_call0_v99 : Ref sig .tc := ⟨.hbm, 155, rfl⟩
abbrev main_call0_call0_v100 : Ref sig .tc := ⟨.hbm, 156, rfl⟩
abbrev main_call0_call0_v101 : Ref sig .tc := ⟨.hbm, 157, rfl⟩
abbrev main_call0_call0_v102 : Ref sig .tc := ⟨.hbm, 158, rfl⟩
abbrev main_call0_call0_v103 : Ref sig .tc := ⟨.hbm, 159, rfl⟩
abbrev main_call0_call0_v104 : Ref sig .tc := ⟨.hbm, 160, rfl⟩
abbrev main_call0_call0_v105 : Ref sig .tc := ⟨.hbm, 161, rfl⟩
abbrev main_call0_call0_c_26 : Ref sig .tc := ⟨.hbm, 162, rfl⟩
abbrev main_call0_call0_v106 : Ref sig .tc := ⟨.hbm, 163, rfl⟩
abbrev main_call0_call0_v107 : Ref sig .tc := ⟨.hbm, 164, rfl⟩
abbrev main_call0_call0_v108 : Ref sig .tc := ⟨.hbm, 165, rfl⟩
abbrev main_call0_call0_c_27 : Ref sig .tc := ⟨.hbm, 166, rfl⟩
abbrev main_call0_call0_v109 : Ref sig .tc := ⟨.hbm, 167, rfl⟩
abbrev main_call0_call0_v110 : Ref sig .tc := ⟨.hbm, 168, rfl⟩
abbrev main_call0_call0_c_28 : Ref sig .tc := ⟨.hbm, 169, rfl⟩
abbrev main_call0_call0_v111 : Ref sig .tc := ⟨.hbm, 170, rfl⟩
abbrev main_call0_call0_v112 : Ref sig .tc := ⟨.hbm, 171, rfl⟩
abbrev main_call0_call0_v113 : Ref sig .tc := ⟨.hbm, 172, rfl⟩
abbrev main_call0_call0_v114 : Ref sig .tc := ⟨.hbm, 173, rfl⟩
abbrev main_call0_call0_v115 : Ref sig .tc := ⟨.hbm, 174, rfl⟩
abbrev main_call0_call0_c_29 : Ref sig .tc := ⟨.hbm, 175, rfl⟩
abbrev main_call0_call0_v116 : Ref sig .tc := ⟨.hbm, 176, rfl⟩
abbrev main_call0_call0_v117 : Ref sig .tc := ⟨.hbm, 177, rfl⟩
abbrev main_call0_call0_c_30 : Ref sig .tc := ⟨.hbm, 178, rfl⟩
abbrev main_call0_call0_v118 : Ref sig .tc := ⟨.hbm, 179, rfl⟩
abbrev main_call0_call0_v119 : Ref sig .tc := ⟨.hbm, 180, rfl⟩
abbrev main_call0_call0_v120 : Ref sig .tc := ⟨.hbm, 181, rfl⟩
abbrev main_call0_call0_v121 : Ref sig .tc := ⟨.hbm, 182, rfl⟩
abbrev main_call0_call0_v122 : Ref sig .tc := ⟨.hbm, 183, rfl⟩
abbrev main_call0_call0_c_31 : Ref sig .tc := ⟨.hbm, 184, rfl⟩
abbrev main_call0_call0_v123 : Ref sig .tc := ⟨.hbm, 185, rfl⟩
abbrev main_call0_call0_v124 : Ref sig .tc := ⟨.hbm, 186, rfl⟩
abbrev main_call0_call0_c_32 : Ref sig .tc := ⟨.hbm, 187, rfl⟩
abbrev main_call0_call0_v125 : Ref sig .tc := ⟨.hbm, 188, rfl⟩
abbrev main_call0_call0_v126 : Ref sig .tc := ⟨.hbm, 189, rfl⟩
abbrev main_call0_call0_v127 : Ref sig .tc := ⟨.hbm, 190, rfl⟩
abbrev main_call0_call0_v128 : Ref sig .tc := ⟨.hbm, 191, rfl⟩
abbrev main_call0_call0_v129 : Ref sig .tc := ⟨.hbm, 192, rfl⟩
abbrev main_call0_call0_c_33 : Ref sig .tc := ⟨.hbm, 193, rfl⟩
abbrev main_call0_call0_v130 : Ref sig .tc := ⟨.hbm, 194, rfl⟩
abbrev main_call0_call0_v131 : Ref sig .tc := ⟨.hbm, 195, rfl⟩
abbrev main_call0_call0_c_34 : Ref sig .tc := ⟨.hbm, 196, rfl⟩
abbrev main_call0_call0_v132 : Ref sig .tc := ⟨.hbm, 197, rfl⟩
abbrev main_call0_call0_v133 : Ref sig .tc := ⟨.hbm, 198, rfl⟩
abbrev main_call0_call0_v134 : Ref sig .tc := ⟨.hbm, 199, rfl⟩
abbrev main_call0_call0_v135 : Ref sig .tc := ⟨.hbm, 200, rfl⟩
abbrev main_call0_call0_v136 : Ref sig .tc := ⟨.hbm, 201, rfl⟩
abbrev main_call0_call0_v137 : Ref sig .tc := ⟨.hbm, 202, rfl⟩
abbrev main_call0_call0_v138 : Ref sig .tc := ⟨.hbm, 203, rfl⟩
abbrev main_call0_call0_v139 : Ref sig .tc := ⟨.hbm, 204, rfl⟩
abbrev main_call0_call0_c_35 : Ref sig .tc := ⟨.hbm, 205, rfl⟩
abbrev main_call0_call0_v140 : Ref sig .tc := ⟨.hbm, 206, rfl⟩
abbrev main_call0_call0_v141 : Ref sig .tc := ⟨.hbm, 207, rfl⟩
abbrev main_call0_call0_v142 : Ref sig .tc := ⟨.hbm, 208, rfl⟩
abbrev main_call0_call0_c_36 : Ref sig .tc := ⟨.hbm, 209, rfl⟩
abbrev main_call0_call0_v143 : Ref sig .tc := ⟨.hbm, 210, rfl⟩
abbrev main_call0_call0_v144 : Ref sig .tc := ⟨.hbm, 211, rfl⟩
abbrev main_call0_call0_c_37 : Ref sig .tc := ⟨.hbm, 212, rfl⟩
abbrev main_call0_call0_v145 : Ref sig .tc := ⟨.hbm, 213, rfl⟩
abbrev main_call0_call0_v146 : Ref sig .tc := ⟨.hbm, 214, rfl⟩
abbrev main_call0_call0_v147 : Ref sig .tc := ⟨.hbm, 215, rfl⟩
abbrev main_call0_call0_v148 : Ref sig .tc := ⟨.hbm, 216, rfl⟩
abbrev main_call0_call0_v149 : Ref sig .tc := ⟨.hbm, 217, rfl⟩
abbrev main_call0_call0_c_38 : Ref sig .tc := ⟨.hbm, 218, rfl⟩
abbrev main_call0_call0_v150 : Ref sig .tc := ⟨.hbm, 219, rfl⟩
abbrev main_call0_call0_v151 : Ref sig .tc := ⟨.hbm, 220, rfl⟩
abbrev main_call0_call0_c_39 : Ref sig .tc := ⟨.hbm, 221, rfl⟩
abbrev main_call0_call0_v152 : Ref sig .tc := ⟨.hbm, 222, rfl⟩
abbrev main_call0_call0_v153 : Ref sig .tc := ⟨.hbm, 223, rfl⟩
abbrev main_call0_call0_v154 : Ref sig .tc := ⟨.hbm, 224, rfl⟩
abbrev main_call0_call0_v155 : Ref sig .tc := ⟨.hbm, 225, rfl⟩
abbrev main_call0_call0_v156 : Ref sig .tc := ⟨.hbm, 226, rfl⟩
abbrev main_call0_call0_c_40 : Ref sig .tc := ⟨.hbm, 227, rfl⟩
abbrev main_call0_call0_v157 : Ref sig .tc := ⟨.hbm, 228, rfl⟩
abbrev main_call0_call0_v158 : Ref sig .tc := ⟨.hbm, 229, rfl⟩
abbrev main_call0_call0_c_41 : Ref sig .tc := ⟨.hbm, 230, rfl⟩
abbrev main_call0_call0_v159 : Ref sig .tc := ⟨.hbm, 231, rfl⟩
abbrev main_call0_call0_v160 : Ref sig .tc := ⟨.hbm, 232, rfl⟩
abbrev main_call0_call0_v161 : Ref sig .tc := ⟨.hbm, 233, rfl⟩
abbrev main_call0_call0_v162 : Ref sig .tc := ⟨.hbm, 234, rfl⟩
abbrev main_call0_call0_v163 : Ref sig .tc := ⟨.hbm, 235, rfl⟩
abbrev main_call0_call0_c_42 : Ref sig .tc := ⟨.hbm, 236, rfl⟩
abbrev main_call0_call0_v164 : Ref sig .tc := ⟨.hbm, 237, rfl⟩
abbrev main_call0_call0_v165 : Ref sig .tc := ⟨.hbm, 238, rfl⟩
abbrev main_call0_call0_c_43 : Ref sig .tc := ⟨.hbm, 239, rfl⟩
abbrev main_call0_call0_v166 : Ref sig .tc := ⟨.hbm, 240, rfl⟩
abbrev main_call0_call0_v167 : Ref sig .tc := ⟨.hbm, 241, rfl⟩
abbrev main_call0_call0_v168 : Ref sig .tc := ⟨.hbm, 242, rfl⟩
abbrev main_call0_call0_v169 : Ref sig .tc := ⟨.hbm, 243, rfl⟩
abbrev main_call0_call0_v170 : Ref sig .tc := ⟨.hbm, 244, rfl⟩
abbrev main_call0_v11_0 : Ref sig .tc := ⟨.hbm, 245, rfl⟩
abbrev main_call0_call0_v172 : Ref sig .tc := ⟨.hbm, 246, rfl⟩
abbrev main_call0_call0_v173 : Ref sig .tc := ⟨.hbm, 247, rfl⟩
abbrev main_call0_call0_c_44 : Ref sig .tc := ⟨.hbm, 248, rfl⟩
abbrev main_call0_call0_v174 : Ref sig .tc := ⟨.hbm, 249, rfl⟩
abbrev main_call0_v11_1 : Ref sig .tc := ⟨.hbm, 250, rfl⟩
abbrev main_call0_v12 : Ref sig .tc := ⟨.hbm, 251, rfl⟩
abbrev main_call0_v13 : Ref sig .tc := ⟨.hbm, 252, rfl⟩
abbrev main_v7 : Ref sig .tc := ⟨.hbm, 253, rfl⟩
abbrev main_v8 : Ref sig .tc := ⟨.hbm, 254, rfl⟩
abbrev main_v9 : Ref sig .tc := ⟨.hbm, 255, rfl⟩
abbrev main_v10 : Ref sig .tc := ⟨.hbm, 256, rfl⟩
abbrev main_v11 : Ref sig .tc := ⟨.hbm, 257, rfl⟩
abbrev main_call1_c : Ref sig .tc := ⟨.hbm, 258, rfl⟩
abbrev main_call1_v0 : Ref sig .tc := ⟨.hbm, 259, rfl⟩
abbrev main_call1_v1 : Ref sig .tc := ⟨.hbm, 260, rfl⟩
abbrev main_call1_c_0 : Ref sig .tc := ⟨.hbm, 261, rfl⟩
abbrev main_call1_v2 : Ref sig .tc := ⟨.hbm, 262, rfl⟩
abbrev main_call1_v3 : Ref sig .tc := ⟨.hbm, 263, rfl⟩
abbrev main_call1_v4 : Ref sig .tc := ⟨.hbm, 264, rfl⟩
abbrev main_call1_v5 : Ref sig .tc := ⟨.hbm, 265, rfl⟩
abbrev main_call1_c_1 : Ref sig .tc := ⟨.hbm, 266, rfl⟩
abbrev main_call1_c_2 : Ref sig .tc := ⟨.hbm, 267, rfl⟩
abbrev main_call1_v6 : Ref sig .tc := ⟨.hbm, 268, rfl⟩
abbrev main_call1_v7 : Ref sig .tc := ⟨.hbm, 269, rfl⟩
abbrev main_call1_v8 : Ref sig .tc := ⟨.hbm, 270, rfl⟩
abbrev main_call1_v9 : Ref sig .tc := ⟨.hbm, 271, rfl⟩
abbrev main_call1_v10 : Ref sig .tc := ⟨.hbm, 272, rfl⟩
abbrev main_call1_v11 : Ref sig .tc := ⟨.hbm, 273, rfl⟩
abbrev main_call1_c_3 : Ref sig .tc := ⟨.hbm, 274, rfl⟩
abbrev main_call1_v12 : Ref sig .tc := ⟨.hbm, 275, rfl⟩
abbrev main_call1_v13 : Ref sig .tc := ⟨.hbm, 276, rfl⟩
abbrev main_call1_v14 : Ref sig .tc := ⟨.hbm, 277, rfl⟩
abbrev main_call1_cst : Ref sig .tc := ⟨.hbm, 278, rfl⟩
abbrev main_call1_v15 : Ref sig .tc := ⟨.hbm, 279, rfl⟩
abbrev main_v12 : Ref sig .tc := ⟨.hbm, 280, rfl⟩
abbrev main_v13 : Ref sig .tc := ⟨.hbm, 281, rfl⟩
abbrev main_call2_c : Ref sig .tc := ⟨.hbm, 282, rfl⟩
abbrev main_call2_v0 : Ref sig .tc := ⟨.hbm, 283, rfl⟩
abbrev main_call2_v1 : Ref sig .tc := ⟨.hbm, 284, rfl⟩
abbrev main_call2_c_0 : Ref sig .tc := ⟨.hbm, 285, rfl⟩
abbrev main_call2_v2 : Ref sig .tc := ⟨.hbm, 286, rfl⟩
abbrev main_call2_v3 : Ref sig .tc := ⟨.hbm, 287, rfl⟩
abbrev main_call2_v4 : Ref sig .tc := ⟨.hbm, 288, rfl⟩
abbrev main_call2_v5 : Ref sig .tc := ⟨.hbm, 289, rfl⟩
abbrev main_call2_c_1 : Ref sig .tc := ⟨.hbm, 290, rfl⟩
abbrev main_call2_c_2 : Ref sig .tc := ⟨.hbm, 291, rfl⟩
abbrev main_call2_v6 : Ref sig .tc := ⟨.hbm, 292, rfl⟩
abbrev main_call2_v7 : Ref sig .tc := ⟨.hbm, 293, rfl⟩
abbrev main_call2_v8 : Ref sig .tc := ⟨.hbm, 294, rfl⟩
abbrev main_call2_v9 : Ref sig .tc := ⟨.hbm, 295, rfl⟩
abbrev main_call2_v10 : Ref sig .tc := ⟨.hbm, 296, rfl⟩
abbrev main_call2_v11 : Ref sig .tc := ⟨.hbm, 297, rfl⟩
abbrev main_call2_c_3 : Ref sig .tc := ⟨.hbm, 298, rfl⟩
abbrev main_call2_v12 : Ref sig .tc := ⟨.hbm, 299, rfl⟩
abbrev main_call2_v13 : Ref sig .tc := ⟨.hbm, 300, rfl⟩
abbrev main_call2_v14 : Ref sig .tc := ⟨.hbm, 301, rfl⟩
abbrev main_call2_cst : Ref sig .tc := ⟨.hbm, 302, rfl⟩
abbrev main_call2_v15 : Ref sig .tc := ⟨.hbm, 303, rfl⟩
abbrev main_v14 : Ref sig .tc := ⟨.hbm, 304, rfl⟩
abbrev main_v15 : Ref sig .tc := ⟨.hbm, 305, rfl⟩
abbrev main_call3_c : Ref sig .tc := ⟨.hbm, 306, rfl⟩
abbrev main_call3_v0 : Ref sig .tc := ⟨.hbm, 307, rfl⟩
abbrev main_call3_v1 : Ref sig .tc := ⟨.hbm, 308, rfl⟩
abbrev main_call3_c_0 : Ref sig .tc := ⟨.hbm, 309, rfl⟩
abbrev main_call3_v2 : Ref sig .tc := ⟨.hbm, 310, rfl⟩
abbrev main_call3_v3 : Ref sig .tc := ⟨.hbm, 311, rfl⟩
abbrev main_call3_v4 : Ref sig .tc := ⟨.hbm, 312, rfl⟩
abbrev main_call3_v5 : Ref sig .tc := ⟨.hbm, 313, rfl⟩
abbrev main_call3_c_1 : Ref sig .tc := ⟨.hbm, 314, rfl⟩
abbrev main_call3_c_2 : Ref sig .tc := ⟨.hbm, 315, rfl⟩
abbrev main_call3_v6 : Ref sig .tc := ⟨.hbm, 316, rfl⟩
abbrev main_call3_v7 : Ref sig .tc := ⟨.hbm, 317, rfl⟩
abbrev main_call3_v8 : Ref sig .tc := ⟨.hbm, 318, rfl⟩
abbrev main_call3_v9 : Ref sig .tc := ⟨.hbm, 319, rfl⟩
abbrev main_call3_v10 : Ref sig .tc := ⟨.hbm, 320, rfl⟩
abbrev main_call3_v11 : Ref sig .tc := ⟨.hbm, 321, rfl⟩
abbrev main_call3_c_3 : Ref sig .tc := ⟨.hbm, 322, rfl⟩
abbrev main_call3_v12 : Ref sig .tc := ⟨.hbm, 323, rfl⟩
abbrev main_call3_v13 : Ref sig .tc := ⟨.hbm, 324, rfl⟩
abbrev main_call3_v14 : Ref sig .tc := ⟨.hbm, 325, rfl⟩
abbrev main_call3_cst : Ref sig .tc := ⟨.hbm, 326, rfl⟩
abbrev main_call3_v15 : Ref sig .tc := ⟨.hbm, 327, rfl⟩
abbrev main_v16 : Ref sig .tc := ⟨.hbm, 328, rfl⟩
abbrev main_v17 : Ref sig .tc := ⟨.hbm, 329, rfl⟩
abbrev main_call4_c : Ref sig .tc := ⟨.hbm, 330, rfl⟩
abbrev main_call4_v0 : Ref sig .tc := ⟨.hbm, 331, rfl⟩
abbrev main_call4_v1 : Ref sig .tc := ⟨.hbm, 332, rfl⟩
abbrev main_call4_c_0 : Ref sig .tc := ⟨.hbm, 333, rfl⟩
abbrev main_call4_v2 : Ref sig .tc := ⟨.hbm, 334, rfl⟩
abbrev main_call4_v3 : Ref sig .tc := ⟨.hbm, 335, rfl⟩
abbrev main_call4_v4 : Ref sig .tc := ⟨.hbm, 336, rfl⟩
abbrev main_call4_v5 : Ref sig .tc := ⟨.hbm, 337, rfl⟩
abbrev main_call4_c_1 : Ref sig .tc := ⟨.hbm, 338, rfl⟩
abbrev main_call4_c_2 : Ref sig .tc := ⟨.hbm, 339, rfl⟩
abbrev main_call4_v6 : Ref sig .tc := ⟨.hbm, 340, rfl⟩
abbrev main_call4_v7 : Ref sig .tc := ⟨.hbm, 341, rfl⟩
abbrev main_call4_v8 : Ref sig .tc := ⟨.hbm, 342, rfl⟩
abbrev main_call4_v9 : Ref sig .tc := ⟨.hbm, 343, rfl⟩
abbrev main_call4_v10 : Ref sig .tc := ⟨.hbm, 344, rfl⟩
abbrev main_call4_v11 : Ref sig .tc := ⟨.hbm, 345, rfl⟩
abbrev main_call4_c_3 : Ref sig .tc := ⟨.hbm, 346, rfl⟩
abbrev main_call4_v12 : Ref sig .tc := ⟨.hbm, 347, rfl⟩
abbrev main_call4_v13 : Ref sig .tc := ⟨.hbm, 348, rfl⟩
abbrev main_call4_v14 : Ref sig .tc := ⟨.hbm, 349, rfl⟩
abbrev main_call4_cst : Ref sig .tc := ⟨.hbm, 350, rfl⟩
abbrev main_call4_v15 : Ref sig .tc := ⟨.hbm, 351, rfl⟩
abbrev main_v18 : Ref sig .tc := ⟨.hbm, 352, rfl⟩
abbrev main_v19 : Ref sig .tc := ⟨.hbm, 353, rfl⟩
abbrev main_v20 : Ref sig .tc := ⟨.hbm, 354, rfl⟩
abbrev main_v21 : Ref sig .tc := ⟨.hbm, 355, rfl⟩
abbrev main_v22 : Ref sig .tc := ⟨.hbm, 356, rfl⟩
abbrev main_v23 : Ref sig .tc := ⟨.hbm, 357, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .smem S2 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== KernelIdeal.lean ====
variable {F : FTy → Type} [FloatOps F] [Named F]
def κ : String → Option EReal := fun
  | "root_two" => some ((Real.sqrt 2 : ℝ) : EReal)
  | _ => none
-- ==== ReferenceIdeal.lean ====
abbrev S100000x32 : Shape := ⟨2, ![100000, 32]⟩
abbrev S1000x32 : Shape := ⟨2, ![1000, 32]⟩
abbrev S16384 : Shape := ⟨1, ![16384]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S16384x1 : Shape := ⟨2, ![16384, 1]⟩
abbrev S1x1 : Shape := ⟨2, ![1, 1]⟩
abbrev S16384x32 : Shape := ⟨2, ![16384, 32]⟩
abbrev S1x1x1 : Shape := ⟨3, ![1, 1, 1]⟩
abbrev S16x16384x32 : Shape := ⟨3, ![16, 16384, 32]⟩
abbrev S1x16384x32 : Shape := ⟨3, ![1, 16384, 32]⟩

abbrev nBuf : Space → Nat
  | .hbm => 1096
  | .vmem => 0
  | .smem => 0
  | _ => 0

abbrev hbmTy0_0 (i : Nat) : BufTy := match i % 128 with
  | 0 => ⟨S100000x32, .f32⟩
  | 1 => ⟨S100000x32, .f32⟩
  | 2 => ⟨S1000x32, .f32⟩
  | 3 => ⟨S1000x32, .f32⟩
  | 4 => ⟨S16384, .i32⟩
  | 5 => ⟨S16384, .i32⟩
  | 6 => ⟨S_, .i32⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S_, .i32⟩
  | 14 => ⟨S1, .i32⟩
  | 15 => ⟨S2, .i32⟩
  | 16 => ⟨S1, .i32⟩
  | 17 => ⟨S_, .i32⟩
  | 18 => ⟨S1, .i32⟩
  | 19 => ⟨S_, .i32⟩
  | 20 => ⟨S2, .i64⟩
  | 21 => ⟨S_, .i64⟩
  | 22 => ⟨S2, .i64⟩
  | 23 => ⟨S2, .i64⟩
  | 24 => ⟨S_, .i64⟩
  | 25 => ⟨S2, .i64⟩
  | 26 => ⟨S2, .i64⟩
  | 27 => ⟨S2, .i32⟩
  | 28 => ⟨S2, .i32⟩
  | 29 => ⟨S_, .i32⟩
  | 30 => ⟨S_, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S100000x32, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S2x1, .i32⟩
  | 124 => ⟨S2x1, .i32⟩
  | 125 => ⟨S2x2, .i32⟩
  | 126 => ⟨S1x2, .i32⟩
  | 127 => ⟨S2, .i32⟩
  | _ => ⟨S100000x32, .f32⟩

abbrev hbmTy0_2 (i : Nat) : BufTy := match i % 128 with
  | 0 => ⟨S1x2, .i32⟩
  | 1 => ⟨S2, .i32⟩
  | 2 => ⟨S_, .i32⟩
  | 3 => ⟨S16384, .i32⟩
  | 4 => ⟨S16384, .i1⟩
  | 5 => ⟨S_, .i32⟩
  | 6 => ⟨S16384, .i32⟩
  | 7 => ⟨S16384, .i32⟩
  | 8 => ⟨S16384, .i32⟩
  | 9 => ⟨S16384x1, .i32⟩
  | 10 => ⟨S1, .i32⟩
  | 11 => ⟨S_, .i32⟩
  | 12 => ⟨S16384x1, .i32⟩
  | 13 => ⟨S16384x1, .i1⟩
  | 14 => ⟨S1x1, .i32⟩
  | 15 => ⟨S16384x1, .i32⟩
  | 16 => ⟨S16384x1, .i1⟩
  | 17 => ⟨S16384x1, .i1⟩
  | 18 => ⟨S_, .i1⟩
  | 19 => ⟨S16384, .i1⟩
  | 20 => ⟨S16384x32, .f32⟩
  | 21 => ⟨S16384x32, .i1⟩
  | 22 => ⟨S_, .f32⟩
  | 23 => ⟨S16384x32, .f32⟩
  | 24 => ⟨S16384x32, .f32⟩
  | 25 => ⟨S_, .i32⟩
  | 26 => ⟨S16384, .i32⟩
  | 27 => ⟨S16384, .i1⟩
  | 28 => ⟨S_, .i32⟩
  | 29 => ⟨S16384, .i32⟩
  | 30 => ⟨S16384, .i32⟩
  | 31 => ⟨S16384, .i32⟩
  | 32 => ⟨S16384x1, .i32⟩
  | 33 => ⟨S1, .i32⟩
  | 34 => ⟨S_, .i32⟩
  | 35 => ⟨S16384x1, .i32⟩
  | 36 => ⟨S16384x1, .i1⟩
  | 37 => ⟨S1x1, .i32⟩
  | 38 => ⟨S16384x1, .i32⟩
  | 39 => ⟨S16384x1, .i1⟩
  | 40 => ⟨S16384x1, .i1⟩
  | 41 => ⟨S_, .i1⟩
  | 42 => ⟨S16384, .i1⟩
  | 43 => ⟨S16384x32, .f32⟩
  | 44 => ⟨S16384x32, .i1⟩
  | 45 => ⟨S_, .f32⟩
  | 46 => ⟨S16384x32, .f32⟩
  | 47 => ⟨S16384x32, .f32⟩
  | 48 => ⟨S16384x32, .f32⟩
  | 49 => ⟨S_, .f32⟩
  | 50 => ⟨S_, .f32⟩
  | 51 => ⟨S_, .f32⟩
  | 52 => ⟨S1x1x1, .f32⟩
  | 53 => ⟨S1x1x1, .f32⟩
  | 54 => ⟨S1, .i32⟩
  | 55 => ⟨S_, .i32⟩
  | 56 => ⟨S1, .i32⟩
  | 57 => ⟨S_, .i32⟩
  | 58 => ⟨S16x16384x32, .i64⟩
  | 59 => ⟨S16x16384x32, .i64⟩
  | 60 => ⟨S16x16384x32, .i64⟩
  | 61 => ⟨S_, .i64⟩
  | 62 => ⟨S16x16384x32, .i64⟩
  | 63 => ⟨S16x16384x32, .i64⟩
  | 64 => ⟨S_, .i64⟩
  | 65 => ⟨S16x16384x32, .i64⟩
  | 66 => ⟨S16x16384x32, .i64⟩
  | 67 => ⟨S_, .i64⟩
  | 68 => ⟨S16x16384x32, .i64⟩
  | 69 => ⟨S16x16384x32, .i64⟩
  | 70 => ⟨S16x16384x32, .i64⟩
  | 71 => ⟨S16x16384x32, .i64⟩
  | 72 => ⟨S_, .i64⟩
  | 73 => ⟨S16x16384x32, .i64⟩
  | 74 => ⟨S16x16384x32, .i64⟩
  | 75 => ⟨S16x16384x32, .i32⟩
  | 76 => ⟨S16x16384x32, .i32⟩
  | 77 => ⟨S_, .i32⟩
  | 78 => ⟨S_, .i32⟩
  | 79 => ⟨S_, .i32⟩
  | 80 => ⟨S16x16384x32, .i32⟩
  | 81 => ⟨S16x16384x32, .i32⟩
  | 82 => ⟨S16x16384x32, .i32⟩
  | 83 => ⟨S16x16384x32, .i32⟩
  | 84 => ⟨S16x16384x32, .i32⟩
  | 85 => ⟨S_, .i32⟩
  | 86 => ⟨S16x16384x32, .i32⟩
  | 87 => ⟨S16x16384x32, .i32⟩
  | 88 => ⟨S_, .i32⟩
  | 89 => ⟨S16x16384x32, .i32⟩
  | 90 => ⟨S16x16384x32, .i32⟩
  | 91 => ⟨S16x16384x32, .i32⟩
  | 92 => ⟨S16x16384x32, .i32⟩
  | 93 => ⟨S16x16384x32, .i32⟩
  | 94 => ⟨S_, .i32⟩
  | 95 => ⟨S16x16384x32, .i32⟩
  | 96 => ⟨S16x16384x32, .i32⟩
  | 97 => ⟨S_, .i32⟩
  | 98 => ⟨S16x16384x32, .i32⟩
  | 99 => ⟨S16x16384x32, .i32⟩
  | 100 => ⟨S16x16384x32, .i32⟩
  | 101 => ⟨S16x16384x32, .i32⟩
  | 102 => ⟨S16x16384x32, .i32⟩
  | 103 => ⟨S_, .i32⟩
  | 104 => ⟨S16x16384x32, .i32⟩
  | 105 => ⟨S16x16384x32, .i32⟩
  | 106 => ⟨S_, .i32⟩
  | 107 => ⟨S16x16384x32, .i32⟩
  | 108 => ⟨S16x16384x32, .i32⟩
  | 109 => ⟨S16x16384x32, .i32⟩
  | 110 => ⟨S16x16384x32, .i32⟩
  | 111 => ⟨S16x16384x32, .i32⟩
  | 112 => ⟨S_, .i32⟩
  | 113 => ⟨S16x16384x32, .i32⟩
  | 114 => ⟨S16x16384x32, .i32⟩
  | 115 => ⟨S_, .i32⟩
  | 116 => ⟨S16x16384x32, .i32⟩
  | 117 => ⟨S16x16384x32, .i32⟩
  | 118 => ⟨S16x16384x32, .i32⟩
  | 119 => ⟨S16x16384x32, .i32⟩
  | 120 => ⟨S16x16384x32, .i32⟩
  | 121 => ⟨S16x16384x32, .i32⟩
  | 122 => ⟨S16x16384x32, .i32⟩
  | 123 => ⟨S16x16384x32, .i32⟩
  | 124 => ⟨S_, .i32⟩
  | 125 => ⟨S16x16384x32, .i32⟩
  | 126 => ⟨S16x16384x32, .i32⟩
  | 127 => ⟨S16x16384x32, .i32⟩
  | _ => ⟨S100000x32, .f32⟩

abbrev hbmTy0_3 (i : Nat) : BufTy := match i % 128 with
  | 0 => ⟨S_, .i32⟩
  | 1 => ⟨S16x16384x32, .i32⟩
  | 2 => ⟨S16x16384x32, .i32⟩
  | 3 => ⟨S_, .i32⟩
  | 4 => ⟨S16x16384x32, .i32⟩
  | 5 => ⟨S16x16384x32, .i32⟩
  | 6 => ⟨S16x16384x32, .i32⟩
  | 7 => ⟨S16x16384x32, .i32⟩
  | 8 => ⟨S16x16384x32, .i32⟩
  | 9 => ⟨S_, .i32⟩
  | 10 => ⟨S16x16384x32, .i32⟩
  | 11 => ⟨S16x16384x32, .i32⟩
  | 12 => ⟨S_, .i32⟩
  | 13 => ⟨S16x16384x32, .i32⟩
  | 14 => ⟨S16x16384x32, .i32⟩
  | 15 => ⟨S16x16384x32, .i32⟩
  | 16 => ⟨S16x16384x32, .i32⟩
  | 17 => ⟨S16x16384x32, .i32⟩
  | 18 => ⟨S_, .i32⟩
  | 19 => ⟨S16x16384x32, .i32⟩
  | 20 => ⟨S16x16384x32, .i32⟩
  | 21 => ⟨S_, .i32⟩
  | 22 => ⟨S16x16384x32, .i32⟩
  | 23 => ⟨S16x16384x32, .i32⟩
  | 24 => ⟨S16x16384x32, .i32⟩
  | 25 => ⟨S16x16384x32, .i32⟩
  | 26 => ⟨S16x16384x32, .i32⟩
  | 27 => ⟨S_, .i32⟩
  | 28 => ⟨S16x16384x32, .i32⟩
  | 29 => ⟨S16x16384x32, .i32⟩
  | 30 => ⟨S_, .i32⟩
  | 31 => ⟨S16x16384x32, .i32⟩
  | 32 => ⟨S16x16384x32, .i32⟩
  | 33 => ⟨S16x16384x32, .i32⟩
  | 34 => ⟨S16x16384x32, .i32⟩
  | 35 => ⟨S16x16384x32, .i32⟩
  | 36 => ⟨S16x16384x32, .i32⟩
  | 37 => ⟨S16x16384x32, .i32⟩
  | 38 => ⟨S16x16384x32, .i32⟩
  | 39 => ⟨S_, .i32⟩
  | 40 => ⟨S16x16384x32, .i32⟩
  | 41 => ⟨S16x16384x32, .i32⟩
  | 42 => ⟨S16x16384x32, .i32⟩
  | 43 => ⟨S_, .i32⟩
  | 44 => ⟨S16x16384x32, .i32⟩
  | 45 => ⟨S16x16384x32, .i32⟩
  | 46 => ⟨S_, .i32⟩
  | 47 => ⟨S16x16384x32, .i32⟩
  | 48 => ⟨S16x16384x32, .i32⟩
  | 49 => ⟨S16x16384x32, .i32⟩
  | 50 => ⟨S16x16384x32, .i32⟩
  | 51 => ⟨S16x16384x32, .i32⟩
  | 52 => ⟨S_, .i32⟩
  | 53 => ⟨S16x16384x32, .i32⟩
  | 54 => ⟨S16x16384x32, .i32⟩
  | 55 => ⟨S_, .i32⟩
  | 56 => ⟨S16x16384x32, .i32⟩
  | 57 => ⟨S16x16384x32, .i32⟩
  | 58 => ⟨S16x16384x32, .i32⟩
  | 59 => ⟨S16x16384x32, .i32⟩
  | 60 => ⟨S16x16384x32, .i32⟩
  | 61 => ⟨S_, .i32⟩
  | 62 => ⟨S16x16384x32, .i32⟩
  | 63 => ⟨S16x16384x32, .i32⟩
  | 64 => ⟨S_, .i32⟩
  | 65 => ⟨S16x16384x32, .i32⟩
  | 66 => ⟨S16x16384x32, .i32⟩
  | 67 => ⟨S16x16384x32, .i32⟩
  | 68 => ⟨S16x16384x32, .i32⟩
  | 69 => ⟨S16x16384x32, .i32⟩
  | 70 => ⟨S_, .i32⟩
  | 71 => ⟨S16x16384x32, .i32⟩
  | 72 => ⟨S16x16384x32, .i32⟩
  | 73 => ⟨S_, .i32⟩
  | 74 => ⟨S16x16384x32, .i32⟩
  | 75 => ⟨S16x16384x32, .i32⟩
  | 76 => ⟨S16x16384x32, .i32⟩
  | 77 => ⟨S16x16384x32, .i32⟩
  | 78 => ⟨S16x16384x32, .i32⟩
  | 79 => ⟨S16x16384x32, .i32⟩
  | 80 => ⟨S16x16384x32, .i32⟩
  | 81 => ⟨S16x16384x32, .i32⟩
  | 82 => ⟨S_, .i32⟩
  | 83 => ⟨S16x16384x32, .i32⟩
  | 84 => ⟨S16x16384x32, .i32⟩
  | 85 => ⟨S16x16384x32, .i32⟩
  | 86 => ⟨S_, .i32⟩
  | 87 => ⟨S16x16384x32, .i32⟩
  | 88 => ⟨S16x16384x32, .i32⟩
  | 89 => ⟨S_, .i32⟩
  | 90 => ⟨S16x16384x32, .i32⟩
  | 91 => ⟨S16x16384x32, .i32⟩
  | 92 => ⟨S16x16384x32, .i32⟩
  | 93 => ⟨S16x16384x32, .i32⟩
  | 94 => ⟨S16x16384x32, .i32⟩
  | 95 => ⟨S_, .i32⟩
  | 96 => ⟨S16x16384x32, .i32⟩
  | 97 => ⟨S16x16384x32, .i32⟩
  | 98 => ⟨S_, .i32⟩
  | 99 => ⟨S16x16384x32, .i32⟩
  | 100 => ⟨S16x16384x32, .i32⟩
  | 101 => ⟨S16x16384x32, .i32⟩
  | 102 => ⟨S16x16384x32, .i32⟩
  | 103 => ⟨S16x16384x32, .i32⟩
  | 104 => ⟨S_, .i32⟩
  | 105 => ⟨S16x16384x32, .i32⟩
  | 106 => ⟨S16x16384x32, .i32⟩
  | 107 => ⟨S_, .i32⟩
  | 108 => ⟨S16x16384x32, .i32⟩
  | 109 => ⟨S16x16384x32, .i32⟩
  | 110 => ⟨S16x16384x32, .i32⟩
  | 111 => ⟨S16x16384x32, .i32⟩
  | 112 => ⟨S16x16384x32, .i32⟩
  | 113 => ⟨S_, .i32⟩
  | 114 => ⟨S16x16384x32, .i32⟩
  | 115 => ⟨S16x16384x32, .i32⟩
  | 116 => ⟨S_, .i32⟩
  | 117 => ⟨S16x16384x32, .i32⟩
  | 118 => ⟨S16x16384x32, .i32⟩
  | 119 => ⟨S16x16384x32, .i32⟩
  | 120 => ⟨S16x16384x32, .i32⟩
  | 121 => ⟨S16x16384x32, .i32⟩
  | 122 => ⟨S16x16384x32, .i32⟩
  | 123 => ⟨S16x16384x32, .i32⟩
  | 124 => ⟨S16x16384x32, .i32⟩
  | 125 => ⟨S_, .i32⟩
  | 126 => ⟨S16x16384x32, .i32⟩
  | 127 => ⟨S16x16384x32, .i32⟩
  | _ => ⟨S100000x32, .f32⟩

abbrev hbmTy0_4 (i : Nat) : BufTy := match i % 128 with
  | 0 => ⟨S16x16384x32, .i32⟩
  | 1 => ⟨S_, .i32⟩
  | 2 => ⟨S16x16384x32, .i32⟩
  | 3 => ⟨S16x16384x32, .i32⟩
  | 4 => ⟨S_, .i32⟩
  | 5 => ⟨S16x16384x32, .i32⟩
  | 6 => ⟨S16x16384x32, .i32⟩
  | 7 => ⟨S16x16384x32, .i32⟩
  | 8 => ⟨S16x16384x32, .i32⟩
  | 9 => ⟨S16x16384x32, .i32⟩
  | 10 => ⟨S_, .i32⟩
  | 11 => ⟨S16x16384x32, .i32⟩
  | 12 => ⟨S16x16384x32, .i32⟩
  | 13 => ⟨S_, .i32⟩
  | 14 => ⟨S16x16384x32, .i32⟩
  | 15 => ⟨S16x16384x32, .i32⟩
  | 16 => ⟨S16x16384x32, .i32⟩
  | 17 => ⟨S16x16384x32, .i32⟩
  | 18 => ⟨S16x16384x32, .i32⟩
  | 19 => ⟨S_, .i32⟩
  | 20 => ⟨S16x16384x32, .i32⟩
  | 21 => ⟨S16x16384x32, .i32⟩
  | 22 => ⟨S_, .i32⟩
  | 23 => ⟨S16x16384x32, .i32⟩
  | 24 => ⟨S16x16384x32, .i32⟩
  | 25 => ⟨S16x16384x32, .i32⟩
  | 26 => ⟨S16x16384x32, .i32⟩
  | 27 => ⟨S16x16384x32, .i32⟩
  | 28 => ⟨S_, .i32⟩
  | 29 => ⟨S16x16384x32, .i32⟩
  | 30 => ⟨S16x16384x32, .i32⟩
  | 31 => ⟨S_, .i32⟩
  | 32 => ⟨S16x16384x32, .i32⟩
  | 33 => ⟨S16x16384x32, .i32⟩
  | 34 => ⟨S16x16384x32, .i32⟩
  | 35 => ⟨S16x16384x32, .i32⟩
  | 36 => ⟨S16x16384x32, .i32⟩
  | 37 => ⟨S16x16384x32, .i32⟩
  | 38 => ⟨S16x16384x32, .i32⟩
  | 39 => ⟨S16x16384x32, .i32⟩
  | 40 => ⟨S_, .i32⟩
  | 41 => ⟨S16x16384x32, .i32⟩
  | 42 => ⟨S16x16384x32, .i32⟩
  | 43 => ⟨S16x16384x32, .i32⟩
  | 44 => ⟨S_, .i32⟩
  | 45 => ⟨S16x16384x32, .i32⟩
  | 46 => ⟨S16x16384x32, .i32⟩
  | 47 => ⟨S_, .i32⟩
  | 48 => ⟨S16x16384x32, .i32⟩
  | 49 => ⟨S16x16384x32, .i32⟩
  | 50 => ⟨S16x16384x32, .f32⟩
  | 51 => ⟨S_, .f32⟩
  | 52 => ⟨S16x16384x32, .f32⟩
  | 53 => ⟨S16x16384x32, .f32⟩
  | 54 => ⟨S1x1x1, .f32⟩
  | 55 => ⟨S16x16384x32, .f32⟩
  | 56 => ⟨S16x16384x32, .f32⟩
  | 57 => ⟨S16x16384x32, .f32⟩
  | 58 => ⟨S16x16384x32, .f32⟩
  | 59 => ⟨S16x16384x32, .f32⟩
  | 60 => ⟨S16x16384x32, .f32⟩
  | 61 => ⟨S_, .f32⟩
  | 62 => ⟨S_, .f32⟩
  | 63 => ⟨S16x16384x32, .f32⟩
  | 64 => ⟨S16x16384x32, .f32⟩
  | 65 => ⟨S16x16384x32, .f32⟩
  | 66 => ⟨S16x16384x32, .f32⟩
  | 67 => ⟨S_, .f32⟩
  | 68 => ⟨S16x16384x32, .f32⟩
  | 69 => ⟨S16x16384x32, .i1⟩
  | 70 => ⟨S_, .f32⟩
  | 71 => ⟨S16x16384x32, .f32⟩
  | 72 => ⟨S16x16384x32, .f32⟩
  | 73 => ⟨S16x16384x32, .f32⟩
  | 74 => ⟨S_, .f32⟩
  | 75 => ⟨S16x16384x32, .f32⟩
  | 76 => ⟨S16x16384x32, .f32⟩
  | 77 => ⟨S16x16384x32, .f32⟩
  | 78 => ⟨S_, .f32⟩
  | 79 => ⟨S_, .f32⟩
  | 80 => ⟨S16x16384x32, .f32⟩
  | 81 => ⟨S16x16384x32, .f32⟩
  | 82 => ⟨S16x16384x32, .f32⟩
  | 83 => ⟨S_, .f32⟩
  | 84 => ⟨S_, .f32⟩
  | 85 => ⟨S16x16384x32, .f32⟩
  | 86 => ⟨S16x16384x32, .f32⟩
  | 87 => ⟨S16x16384x32, .f32⟩
  | 88 => ⟨S16x16384x32, .f32⟩
  | 89 => ⟨S16x16384x32, .f32⟩
  | 90 => ⟨S16x16384x32, .f32⟩
  | 91 => ⟨S16x16384x32, .f32⟩
  | 92 => ⟨S_, .f32⟩
  | 93 => ⟨S_, .f32⟩
  | 94 => ⟨S16x16384x32, .f32⟩
  | 95 => ⟨S16x16384x32, .f32⟩
  | 96 => ⟨S16x16384x32, .f32⟩
  | 97 => ⟨S16x16384x32, .f32⟩
  | 98 => ⟨S16x16384x32, .f32⟩
  | 99 => ⟨S16x16384x32, .f32⟩
  | 100 => ⟨S_, .f32⟩
  | 101 => ⟨S_, .f32⟩
  | 102 => ⟨S16x16384x32, .f32⟩
  | 103 => ⟨S16x16384x32, .f32⟩
  | 104 => ⟨S16x16384x32, .f32⟩
  | 105 => ⟨S16x16384x32, .f32⟩
  | 106 => ⟨S16x16384x32, .f32⟩
  | 107 => ⟨S16x16384x32, .f32⟩
  | 108 => ⟨S_, .f32⟩
  | 109 => ⟨S_, .f32⟩
  | 110 => ⟨S16x16384x32, .f32⟩
  | 111 => ⟨S16x16384x32, .f32⟩
  | 112 => ⟨S16x16384x32, .f32⟩
  | 113 => ⟨S16x16384x32, .f32⟩
  | 114 => ⟨S16x16384x32, .f32⟩
  | 115 => ⟨S16x16384x32, .f32⟩
  | 116 => ⟨S_, .f32⟩
  | 117 => ⟨S_, .f32⟩
  | 118 => ⟨S16x16384x32, .f32⟩
  | 119 => ⟨S16x16384x32, .f32⟩
  | 120 => ⟨S16x16384x32, .f32⟩
  | 121 => ⟨S16x16384x32, .f32⟩
  | 122 => ⟨S16x16384x32, .f32⟩
  | 123 => ⟨S16x16384x32, .f32⟩
  | 124 => ⟨S_, .f32⟩
  | 125 => ⟨S_, .f32⟩
  | 126 => ⟨S16x16384x32, .f32⟩
  | 127 => ⟨S16x16384x32, .f32⟩
  | _ => ⟨S100000x32, .f32⟩

abbrev hbmTy0_5 (i : Nat) : BufTy := match i % 128 with
  | 0 => ⟨S16x16384x32, .f32⟩
  | 1 => ⟨S16x16384x32, .f32⟩
  | 2 => ⟨S16x16384x32, .f32⟩
  | 3 => ⟨S16x16384x32, .f32⟩
  | 4 => ⟨S_, .f32⟩
  | 5 => ⟨S_, .f32⟩
  | 6 => ⟨S16x16384x32, .f32⟩
  | 7 => ⟨S16x16384x32, .f32⟩
  | 8 => ⟨S16x16384x32, .f32⟩
  | 9 => ⟨S16x16384x32, .f32⟩
  | 10 => ⟨S16x16384x32, .f32⟩
  | 11 => ⟨S16x16384x32, .f32⟩
  | 12 => ⟨S_, .f32⟩
  | 13 => ⟨S_, .f32⟩
  | 14 => ⟨S16x16384x32, .f32⟩
  | 15 => ⟨S16x16384x32, .f32⟩
  | 16 => ⟨S16x16384x32, .f32⟩
  | 17 => ⟨S16x16384x32, .f32⟩
  | 18 => ⟨S16x16384x32, .f32⟩
  | 19 => ⟨S16x16384x32, .f32⟩
  | 20 => ⟨S16x16384x32, .f32⟩
  | 21 => ⟨S_, .f32⟩
  | 22 => ⟨S16x16384x32, .f32⟩
  | 23 => ⟨S16x16384x32, .i1⟩
  | 24 => ⟨S_, .f32⟩
  | 25 => ⟨S16x16384x32, .f32⟩
  | 26 => ⟨S16x16384x32, .f32⟩
  | 27 => ⟨S16x16384x32, .f32⟩
  | 28 => ⟨S16x16384x32, .f32⟩
  | 29 => ⟨S16x16384x32, .f32⟩
  | 30 => ⟨S16x16384x32, .f32⟩
  | 31 => ⟨S1x16384x32, .f32⟩
  | 32 => ⟨S1x16384x32, .f32⟩
  | 33 => ⟨S16x16384x32, .f32⟩
  | 34 => ⟨S16x16384x32, .f32⟩
  | 35 => ⟨S16x16384x32, .f32⟩
  | 36 => ⟨S16x16384x32, .f32⟩
  | 37 => ⟨S_, .i32⟩
  | 38 => ⟨S16384, .i32⟩
  | 39 => ⟨S16384, .i1⟩
  | 40 => ⟨S_, .i32⟩
  | 41 => ⟨S16384, .i32⟩
  | 42 => ⟨S16384, .i32⟩
  | 43 => ⟨S16384, .i32⟩
  | 44 => ⟨S16384x1, .i32⟩
  | 45 => ⟨S1, .i32⟩
  | 46 => ⟨S_, .i32⟩
  | 47 => ⟨S16384x1, .i32⟩
  | 48 => ⟨S16384x1, .i1⟩
  | 49 => ⟨S1x1, .i32⟩
  | 50 => ⟨S16384x1, .i32⟩
  | 51 => ⟨S16384x1, .i1⟩
  | 52 => ⟨S16384x1, .i1⟩
  | 53 => ⟨S_, .i1⟩
  | 54 => ⟨S16384, .i1⟩
  | 55 => ⟨S16384x32, .f32⟩
  | 56 => ⟨S16384x32, .i1⟩
  | 57 => ⟨S_, .f32⟩
  | 58 => ⟨S16384x32, .f32⟩
  | 59 => ⟨S16384x32, .f32⟩
  | 60 => ⟨S_, .i32⟩
  | 61 => ⟨S16384, .i32⟩
  | 62 => ⟨S16384, .i1⟩
  | 63 => ⟨S_, .i32⟩
  | 64 => ⟨S16384, .i32⟩
  | 65 => ⟨S16384, .i32⟩
  | 66 => ⟨S16384, .i32⟩
  | 67 => ⟨S16384x1, .i32⟩
  | 68 => ⟨S1, .i32⟩
  | 69 => ⟨S_, .i32⟩
  | 70 => ⟨S16384x1, .i32⟩
  | 71 => ⟨S16384x1, .i1⟩
  | 72 => ⟨S1x1, .i32⟩
  | 73 => ⟨S16384x1, .i32⟩
  | 74 => ⟨S16384x1, .i1⟩
  | 75 => ⟨S16384x1, .i1⟩
  | 76 => ⟨S_, .i1⟩
  | 77 => ⟨S16384, .i1⟩
  | 78 => ⟨S16384x32, .f32⟩
  | 79 => ⟨S16384x32, .i1⟩
  | 80 => ⟨S_, .f32⟩
  | 81 => ⟨S16384x32, .f32⟩
  | 82 => ⟨S16384x32, .f32⟩
  | 83 => ⟨S16384x32, .f32⟩
  | 84 => ⟨S_, .f32⟩
  | 85 => ⟨S_, .f32⟩
  | 86 => ⟨S_, .f32⟩
  | 87 => ⟨S1x1x1, .f32⟩
  | 88 => ⟨S1x1x1, .f32⟩
  | 89 => ⟨S1, .i32⟩
  | 90 => ⟨S_, .i32⟩
  | 91 => ⟨S1, .i32⟩
  | 92 => ⟨S_, .i32⟩
  | 93 => ⟨S16x16384x32, .i64⟩
  | 94 => ⟨S16x16384x32, .i64⟩
  | 95 => ⟨S16x16384x32, .i64⟩
  | 96 => ⟨S_, .i64⟩
  | 97 => ⟨S16x16384x32, .i64⟩
  | 98 => ⟨S16x16384x32, .i64⟩
  | 99 => ⟨S_, .i64⟩
  | 100 => ⟨S16x16384x32, .i64⟩
  | 101 => ⟨S16x16384x32, .i64⟩
  | 102 => ⟨S_, .i64⟩
  | 103 => ⟨S16x16384x32, .i64⟩
  | 104 => ⟨S16x16384x32, .i64⟩
  | 105 => ⟨S16x16384x32, .i64⟩
  | 106 => ⟨S16x16384x32, .i64⟩
  | 107 => ⟨S_, .i64⟩
  | 108 => ⟨S16x16384x32, .i64⟩
  | 109 => ⟨S16x16384x32, .i64⟩
  | 110 => ⟨S16x16384x32, .i32⟩
  | 111 => ⟨S16x16384x32, .i32⟩
  | 112 => ⟨S_, .i32⟩
  | 113 => ⟨S_, .i32⟩
  | 114 => ⟨S_, .i32⟩
  | 115 => ⟨S16x16384x32, .i32⟩
  | 116 => ⟨S16x16384x32, .i32⟩
  | 117 => ⟨S16x16384x32, .i32⟩
  | 118 => ⟨S16x16384x32, .i32⟩
  | 119 => ⟨S16x16384x32, .i32⟩
  | 120 => ⟨S_, .i32⟩
  | 121 => ⟨S16x16384x32, .i32⟩
  | 122 => ⟨S16x16384x32, .i32⟩
  | 123 => ⟨S_, .i32⟩
  | 124 => ⟨S16x16384x32, .i32⟩
  | 125 => ⟨S16x16384x32, .i32⟩
  | 126 => ⟨S16x16384x32, .i32⟩
  | 127 => ⟨S16x16384x32, .i32⟩
  | _ => ⟨S100000x32, .f32⟩

abbrev hbmTy0_6 (i : Nat) : BufTy := match i % 128 with
  | 0 => ⟨S16x16384x32, .i32⟩
  | 1 => ⟨S_, .i32⟩
  | 2 => ⟨S16x16384x32, .i32⟩
  | 3 => ⟨S16x16384x32, .i32⟩
  | 4 => ⟨S_, .i32⟩
  | 5 => ⟨S16x16384x32, .i32⟩
  | 6 => ⟨S16x16384x32, .i32⟩
  | 7 => ⟨S16x16384x32, .i32⟩
  | 8 => ⟨S16x16384x32, .i32⟩
  | 9 => ⟨S16x16384x32, .i32⟩
  | 10 => ⟨S_, .i32⟩
  | 11 => ⟨S16x16384x32, .i32⟩
  | 12 => ⟨S16x16384x32, .i32⟩
  | 13 => ⟨S_, .i32⟩
  | 14 => ⟨S16x16384x32, .i32⟩
  | 15 => ⟨S16x16384x32, .i32⟩
  | 16 => ⟨S16x16384x32, .i32⟩
  | 17 => ⟨S16x16384x32, .i32⟩
  | 18 => ⟨S16x16384x32, .i32⟩
  | 19 => ⟨S_, .i32⟩
  | 20 => ⟨S16x16384x32, .i32⟩
  | 21 => ⟨S16x16384x32, .i32⟩
  | 22 => ⟨S_, .i32⟩
  | 23 => ⟨S16x16384x32, .i32⟩
  | 24 => ⟨S16x16384x32, .i32⟩
  | 25 => ⟨S16x16384x32, .i32⟩
  | 26 => ⟨S16x16384x32, .i32⟩
  | 27 => ⟨S16x16384x32, .i32⟩
  | 28 => ⟨S16x16384x32, .i32⟩
  | 29 => ⟨S16x16384x32, .i32⟩
  | 30 => ⟨S16x16384x32, .i32⟩
  | 31 => ⟨S_, .i32⟩
  | 32 => ⟨S16x16384x32, .i32⟩
  | 33 => ⟨S16x16384x32, .i32⟩
  | 34 => ⟨S16x16384x32, .i32⟩
  | 35 => ⟨S_, .i32⟩
  | 36 => ⟨S16x16384x32, .i32⟩
  | 37 => ⟨S16x16384x32, .i32⟩
  | 38 => ⟨S_, .i32⟩
  | 39 => ⟨S16x16384x32, .i32⟩
  | 40 => ⟨S16x16384x32, .i32⟩
  | 41 => ⟨S16x16384x32, .i32⟩
  | 42 => ⟨S16x16384x32, .i32⟩
  | 43 => ⟨S16x16384x32, .i32⟩
  | 44 => ⟨S_, .i32⟩
  | 45 => ⟨S16x16384x32, .i32⟩
  | 46 => ⟨S16x16384x32, .i32⟩
  | 47 => ⟨S_, .i32⟩
  | 48 => ⟨S16x16384x32, .i32⟩
  | 49 => ⟨S16x16384x32, .i32⟩
  | 50 => ⟨S16x16384x32, .i32⟩
  | 51 => ⟨S16x16384x32, .i32⟩
  | 52 => ⟨S16x16384x32, .i32⟩
  | 53 => ⟨S_, .i32⟩
  | 54 => ⟨S16x16384x32, .i32⟩
  | 55 => ⟨S16x16384x32, .i32⟩
  | 56 => ⟨S_, .i32⟩
  | 57 => ⟨S16x16384x32, .i32⟩
  | 58 => ⟨S16x16384x32, .i32⟩
  | 59 => ⟨S16x16384x32, .i32⟩
  | 60 => ⟨S16x16384x32, .i32⟩
  | 61 => ⟨S16x16384x32, .i32⟩
  | 62 => ⟨S_, .i32⟩
  | 63 => ⟨S16x16384x32, .i32⟩
  | 64 => ⟨S16x16384x32, .i32⟩
  | 65 => ⟨S_, .i32⟩
  | 66 => ⟨S16x16384x32, .i32⟩
  | 67 => ⟨S16x16384x32, .i32⟩
  | 68 => ⟨S16x16384x32, .i32⟩
  | 69 => ⟨S16x16384x32, .i32⟩
  | 70 => ⟨S16x16384x32, .i32⟩
  | 71 => ⟨S16x16384x32, .i32⟩
  | 72 => ⟨S16x16384x32, .i32⟩
  | 73 => ⟨S16x16384x32, .i32⟩
  | 74 => ⟨S_, .i32⟩
  | 75 => ⟨S16x16384x32, .i32⟩
  | 76 => ⟨S16x16384x32, .i32⟩
  | 77 => ⟨S16x16384x32, .i32⟩
  | 78 => ⟨S_, .i32⟩
  | 79 => ⟨S16x16384x32, .i32⟩
  | 80 => ⟨S16x16384x32, .i32⟩
  | 81 => ⟨S_, .i32⟩
  | 82 => ⟨S16x16384x32, .i32⟩
  | 83 => ⟨S16x16384x32, .i32⟩
  | 84 => ⟨S16x16384x32, .i32⟩
  | 85 => ⟨S16x16384x32, .i32⟩
  | 86 => ⟨S16x16384x32, .i32⟩
  | 87 => ⟨S_, .i32⟩
  | 88 => ⟨S16x16384x32, .i32⟩
  | 89 => ⟨S16x16384x32, .i32⟩
  | 90 => ⟨S_, .i32⟩
  | 91 => ⟨S16x16384x32, .i32⟩
  | 92 => ⟨S16x16384x32, .i32⟩
  | 93 => ⟨S16x16384x32, .i32⟩
  | 94 => ⟨S16x16384x32, .i32⟩
  | 95 => ⟨S16x16384x32, .i32⟩
  | 96 => ⟨S_, .i32⟩
  | 97 => ⟨S16x16384x32, .i32⟩
  | 98 => ⟨S16x16384x32, .i32⟩
  | 99 => ⟨S_, .i32⟩
  | 100 => ⟨S16x16384x32, .i32⟩
  | 101 => ⟨S16x16384x32, .i32⟩
  | 102 => ⟨S16x16384x32, .i32⟩
  | 103 => ⟨S16x16384x32, .i32⟩
  | 104 => ⟨S16x16384x32, .i32⟩
  | 105 => ⟨S_, .i32⟩
  | 106 => ⟨S16x16384x32, .i32⟩
  | 107 => ⟨S16x16384x32, .i32⟩
  | 108 => ⟨S_, .i32⟩
  | 109 => ⟨S16x16384x32, .i32⟩
  | 110 => ⟨S16x16384x32, .i32⟩
  | 111 => ⟨S16x16384x32, .i32⟩
  | 112 => ⟨S16x16384x32, .i32⟩
  | 113 => ⟨S16x16384x32, .i32⟩
  | 114 => ⟨S16x16384x32, .i32⟩
  | 115 => ⟨S16x16384x32, .i32⟩
  | 116 => ⟨S16x16384x32, .i32⟩
  | 117 => ⟨S_, .i32⟩
  | 118 => ⟨S16x16384x32, .i32⟩
  | 119 => ⟨S16x16384x32, .i32⟩
  | 120 => ⟨S16x16384x32, .i32⟩
  | 121 => ⟨S_, .i32⟩
  | 122 => ⟨S16x16384x32, .i32⟩
  | 123 => ⟨S16x16384x32, .i32⟩
  | 124 => ⟨S_, .i32⟩
  | 125 => ⟨S16x16384x32, .i32⟩
  | 126 => ⟨S16x16384x32, .i32⟩
  | 127 => ⟨S16x16384x32, .i32⟩
  | _ => ⟨S100000x32, .f32⟩

abbrev hbmTy0_7 (i : Nat) : BufTy := match i % 128 with
  | 0 => ⟨S16x16384x32, .i32⟩
  | 1 => ⟨S16x16384x32, .i32⟩
  | 2 => ⟨S_, .i32⟩
  | 3 => ⟨S16x16384x32, .i32⟩
  | 4 => ⟨S16x16384x32, .i32⟩
  | 5 => ⟨S_, .i32⟩
  | 6 => ⟨S16x16384x32, .i32⟩
  | 7 => ⟨S16x16384x32, .i32⟩
  | 8 => ⟨S16x16384x32, .i32⟩
  | 9 => ⟨S16x16384x32, .i32⟩
  | 10 => ⟨S16x16384x32, .i32⟩
  | 11 => ⟨S_, .i32⟩
  | 12 => ⟨S16x16384x32, .i32⟩
  | 13 => ⟨S16x16384x32, .i32⟩
  | 14 => ⟨S_, .i32⟩
  | 15 => ⟨S16x16384x32, .i32⟩
  | 16 => ⟨S16x16384x32, .i32⟩
  | 17 => ⟨S16x16384x32, .i32⟩
  | 18 => ⟨S16x16384x32, .i32⟩
  | 19 => ⟨S16x16384x32, .i32⟩
  | 20 => ⟨S_, .i32⟩
  | 21 => ⟨S16x16384x32, .i32⟩
  | 22 => ⟨S16x16384x32, .i32⟩
  | 23 => ⟨S_, .i32⟩
  | 24 => ⟨S16x16384x32, .i32⟩
  | 25 => ⟨S16x16384x32, .i32⟩
  | 26 => ⟨S16x16384x32, .i32⟩
  | 27 => ⟨S16x16384x32, .i32⟩
  | 28 => ⟨S16x16384x32, .i32⟩
  | 29 => ⟨S16x16384x32, .i32⟩
  | 30 => ⟨S16x16384x32, .i32⟩
  | 31 => ⟨S16x16384x32, .i32⟩
  | 32 => ⟨S_, .i32⟩
  | 33 => ⟨S16x16384x32, .i32⟩
  | 34 => ⟨S16x16384x32, .i32⟩
  | 35 => ⟨S16x16384x32, .i32⟩
  | 36 => ⟨S_, .i32⟩
  | 37 => ⟨S16x16384x32, .i32⟩
  | 38 => ⟨S16x16384x32, .i32⟩
  | 39 => ⟨S_, .i32⟩
  | 40 => ⟨S16x16384x32, .i32⟩
  | 41 => ⟨S16x16384x32, .i32⟩
  | 42 => ⟨S16x16384x32, .i32⟩
  | 43 => ⟨S16x16384x32, .i32⟩
  | 44 => ⟨S16x16384x32, .i32⟩
  | 45 => ⟨S_, .i32⟩
  | 46 => ⟨S16x16384x32, .i32⟩
  | 47 => ⟨S16x16384x32, .i32⟩
  | 48 => ⟨S_, .i32⟩
  | 49 => ⟨S16x16384x32, .i32⟩
  | 50 => ⟨S16x16384x32, .i32⟩
  | 51 => ⟨S16x16384x32, .i32⟩
  | 52 => ⟨S16x16384x32, .i32⟩
  | 53 => ⟨S16x16384x32, .i32⟩
  | 54 => ⟨S_, .i32⟩
  | 55 => ⟨S16x16384x32, .i32⟩
  | 56 => ⟨S16x16384x32, .i32⟩
  | 57 => ⟨S_, .i32⟩
  | 58 => ⟨S16x16384x32, .i32⟩
  | 59 => ⟨S16x16384x32, .i32⟩
  | 60 => ⟨S16x16384x32, .i32⟩
  | 61 => ⟨S16x16384x32, .i32⟩
  | 62 => ⟨S16x16384x32, .i32⟩
  | 63 => ⟨S_, .i32⟩
  | 64 => ⟨S16x16384x32, .i32⟩
  | 65 => ⟨S16x16384x32, .i32⟩
  | 66 => ⟨S_, .i32⟩
  | 67 => ⟨S16x16384x32, .i32⟩
  | 68 => ⟨S16x16384x32, .i32⟩
  | 69 => ⟨S16x16384x32, .i32⟩
  | 70 => ⟨S16x16384x32, .i32⟩
  | 71 => ⟨S16x16384x32, .i32⟩
  | 72 => ⟨S16x16384x32, .i32⟩
  | 73 => ⟨S16x16384x32, .i32⟩
  | 74 => ⟨S16x16384x32, .i32⟩
  | 75 => ⟨S_, .i32⟩
  | 76 => ⟨S16x16384x32, .i32⟩
  | 77 => ⟨S16x16384x32, .i32⟩
  | 78 => ⟨S16x16384x32, .i32⟩
  | 79 => ⟨S_, .i32⟩
  | 80 => ⟨S16x16384x32, .i32⟩
  | 81 => ⟨S16x16384x32, .i32⟩
  | 82 => ⟨S_, .i32⟩
  | 83 => ⟨S16x16384x32, .i32⟩
  | 84 => ⟨S16x16384x32, .i32⟩
  | 85 => ⟨S16x16384x32, .f32⟩
  | 86 => ⟨S_, .f32⟩
  | 87 => ⟨S16x16384x32, .f32⟩
  | 88 => ⟨S16x16384x32, .f32⟩
  | 89 => ⟨S1x1x1, .f32⟩
  | 90 => ⟨S16x16384x32, .f32⟩
  | 91 => ⟨S16x16384x32, .f32⟩
  | 92 => ⟨S16x16384x32, .f32⟩
  | 93 => ⟨S16x16384x32, .f32⟩
  | 94 => ⟨S16x16384x32, .f32⟩
  | 95 => ⟨S16x16384x32, .f32⟩
  | 96 => ⟨S_, .f32⟩
  | 97 => ⟨S_, .f32⟩
  | 98 => ⟨S16x16384x32, .f32⟩
  | 99 => ⟨S16x16384x32, .f32⟩
  | 100 => ⟨S16x16384x32, .f32⟩
  | 101 => ⟨S16x16384x32, .f32⟩
  | 102 => ⟨S_, .f32⟩
  | 103 => ⟨S16x16384x32, .f32⟩
  | 104 => ⟨S16x16384x32, .i1⟩
  | 105 => ⟨S_, .f32⟩
  | 106 => ⟨S16x16384x32, .f32⟩
  | 107 => ⟨S16x16384x32, .f32⟩
  | 108 => ⟨S16x16384x32, .f32⟩
  | 109 => ⟨S_, .f32⟩
  | 110 => ⟨S16x16384x32, .f32⟩
  | 111 => ⟨S16x16384x32, .f32⟩
  | 112 => ⟨S16x16384x32, .f32⟩
  | 113 => ⟨S_, .f32⟩
  | 114 => ⟨S_, .f32⟩
  | 115 => ⟨S16x16384x32, .f32⟩
  | 116 => ⟨S16x16384x32, .f32⟩
  | 117 => ⟨S16x16384x32, .f32⟩
  | 118 => ⟨S_, .f32⟩
  | 119 => ⟨S_, .f32⟩
  | 120 => ⟨S16x16384x32, .f32⟩
  | 121 => ⟨S16x16384x32, .f32⟩
  | 122 => ⟨S16x16384x32, .f32⟩
  | 123 => ⟨S16x16384x32, .f32⟩
  | 124 => ⟨S16x16384x32, .f32⟩
  | 125 => ⟨S16x16384x32, .f32⟩
  | 126 => ⟨S16x16384x32, .f32⟩
  | 127 => ⟨S_, .f32⟩
  | _ => ⟨S100000x32, .f32⟩

abbrev hbmTy0_8 (i : Nat) : BufTy := match i % 128 with
  | 0 => ⟨S_, .f32⟩
  | 1 => ⟨S16x16384x32, .f32⟩
  | 2 => ⟨S16x16384x32, .f32⟩
  | 3 => ⟨S16x16384x32, .f32⟩
  | 4 => ⟨S16x16384x32, .f32⟩
  | 5 => ⟨S16x16384x32, .f32⟩
  | 6 => ⟨S16x16384x32, .f32⟩
  | 7 => ⟨S_, .f32⟩
  | 8 => ⟨S_, .f32⟩
  | 9 => ⟨S16x16384x32, .f32⟩
  | 10 => ⟨S16x16384x32, .f32⟩
  | 11 => ⟨S16x16384x32, .f32⟩
  | 12 => ⟨S16x16384x32, .f32⟩
  | 13 => ⟨S16x16384x32, .f32⟩
  | 14 => ⟨S16x16384x32, .f32⟩
  | 15 => ⟨S_, .f32⟩
  | 16 => ⟨S_, .f32⟩
  | 17 => ⟨S16x16384x32, .f32⟩
  | 18 => ⟨S16x16384x32, .f32⟩
  | 19 => ⟨S16x16384x32, .f32⟩
  | 20 => ⟨S16x16384x32, .f32⟩
  | 21 => ⟨S16x16384x32, .f32⟩
  | 22 => ⟨S16x16384x32, .f32⟩
  | 23 => ⟨S_, .f32⟩
  | 24 => ⟨S_, .f32⟩
  | 25 => ⟨S16x16384x32, .f32⟩
  | 26 => ⟨S16x16384x32, .f32⟩
  | 27 => ⟨S16x16384x32, .f32⟩
  | 28 => ⟨S16x16384x32, .f32⟩
  | 29 => ⟨S16x16384x32, .f32⟩
  | 30 => ⟨S16x16384x32, .f32⟩
  | 31 => ⟨S_, .f32⟩
  | 32 => ⟨S_, .f32⟩
  | 33 => ⟨S16x16384x32, .f32⟩
  | 34 => ⟨S16x16384x32, .f32⟩
  | 35 => ⟨S16x16384x32, .f32⟩
  | 36 => ⟨S16x16384x32, .f32⟩
  | 37 => ⟨S16x16384x32, .f32⟩
  | 38 => ⟨S16x16384x32, .f32⟩
  | 39 => ⟨S_, .f32⟩
  | 40 => ⟨S_, .f32⟩
  | 41 => ⟨S16x16384x32, .f32⟩
  | 42 => ⟨S16x16384x32, .f32⟩
  | 43 => ⟨S16x16384x32, .f32⟩
  | 44 => ⟨S16x16384x32, .f32⟩
  | 45 => ⟨S16x16384x32, .f32⟩
  | 46 => ⟨S16x16384x32, .f32⟩
  | 47 => ⟨S_, .f32⟩
  | 48 => ⟨S_, .f32⟩
  | 49 => ⟨S16x16384x32, .f32⟩
  | 50 => ⟨S16x16384x32, .f32⟩
  | 51 => ⟨S16x16384x32, .f32⟩
  | 52 => ⟨S16x16384x32, .f32⟩
  | 53 => ⟨S16x16384x32, .f32⟩
  | 54 => ⟨S16x16384x32, .f32⟩
  | 55 => ⟨S16x16384x32, .f32⟩
  | 56 => ⟨S_, .f32⟩
  | 57 => ⟨S16x16384x32, .f32⟩
  | 58 => ⟨S16x16384x32, .i1⟩
  | 59 => ⟨S_, .f32⟩
  | 60 => ⟨S16x16384x32, .f32⟩
  | 61 => ⟨S16x16384x32, .f32⟩
  | 62 => ⟨S16x16384x32, .f32⟩
  | 63 => ⟨S16x16384x32, .f32⟩
  | 64 => ⟨S16x16384x32, .f32⟩
  | 65 => ⟨S16x16384x32, .f32⟩
  | 66 => ⟨S1x16384x32, .f32⟩
  | 67 => ⟨S1x16384x32, .f32⟩
  | 68 => ⟨S16x16384x32, .f32⟩
  | 69 => ⟨S16x16384x32, .f32⟩
  | 70 => ⟨S16x16384x32, .f32⟩
  | 71 => ⟨S16x16384x32, .f32⟩
  | _ => ⟨S100000x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c : Ref sig .tc := ⟨.hbm, 21, rfl⟩
abbrev main_call0_v5 : Ref sig .tc := ⟨.hbm, 22, rfl⟩
abbrev main_call0_v6 : Ref sig .tc := ⟨.hbm, 23, rfl⟩
abbrev main_call0_c_0 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_call0_v0 : Ref sig .tc := ⟨.hbm, 29, rfl⟩
abbrev main_call0_call0_c : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_c_0 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_c_1 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_call0_v12 : Ref sig .tc := ⟨.hbm, 44, rfl⟩
abbrev main_call0_call0_v13 : Ref sig .tc := ⟨.hbm, 45, rfl⟩
abbrev main_call0_call0_c_2 : Ref sig .tc := ⟨.hbm, 46, rfl⟩
abbrev main_call0_call0_v14 : Ref sig .tc := ⟨.hbm, 47, rfl⟩
abbrev main_call0_call0_v15 : Ref sig .tc := ⟨.hbm, 48, rfl⟩
abbrev main_call0_call0_c_3 : Ref sig .tc := ⟨.hbm, 49, rfl⟩
abbrev main_call0_call0_v16 : Ref sig .tc := ⟨.hbm, 50, rfl⟩
abbrev main_call0_call0_v17 : Ref sig .tc := ⟨.hbm, 51, rfl⟩
abbrev main_call0_call0_v18 : Ref sig .tc := ⟨.hbm, 52, rfl⟩
abbrev main_call0_call0_v19 : Ref sig .tc := ⟨.hbm, 53, rfl⟩
abbrev main_call0_call0_v20 : Ref sig .tc := ⟨.hbm, 54, rfl⟩
abbrev main_call0_call0_c_4 : Ref sig .tc := ⟨.hbm, 55, rfl⟩
abbrev main_call0_call0_v21 : Ref sig .tc := ⟨.hbm, 56, rfl⟩
abbrev main_call0_call0_v22 : Ref sig .tc := ⟨.hbm, 57, rfl⟩
abbrev main_call0_call0_c_5 : Ref sig .tc := ⟨.hbm, 58, rfl⟩
abbrev main_call0_call0_v23 : Ref sig .tc := ⟨.hbm, 59, rfl⟩
abbrev main_call0_call0_v24 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_v27 : Ref sig .tc := ⟨.hbm, 63, rfl⟩
abbrev main_call0_call0_c_6 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_c_7 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_v32 : Ref sig .tc := ⟨.hbm, 70, rfl⟩
abbrev main_call0_call0_v33 : Ref sig .tc := ⟨.hbm, 71, rfl⟩
abbrev main_call0_call0_v34 : Ref sig .tc := ⟨.hbm, 72, rfl⟩
abbrev main_call0_call0_v35 : Ref sig .tc := ⟨.hbm, 73, rfl⟩
abbrev main_call0_call0_v36 : Ref sig .tc := ⟨.hbm, 74, rfl⟩
abbrev main_call0_call0_v37 : Ref sig .tc := ⟨.hbm, 75, rfl⟩
abbrev main_call0_call0_c_8 : Ref sig .tc := ⟨.hbm, 76, rfl⟩
abbrev main_call0_call0_v38 : Ref sig .tc := ⟨.hbm, 77, rfl⟩
abbrev main_call0_call0_v39 : Ref sig .tc := ⟨.hbm, 78, rfl⟩
abbrev main_call0_call0_v40 : Ref sig .tc := ⟨.hbm, 79, rfl⟩
abbrev main_call0_call0_c_9 : Ref sig .tc := ⟨.hbm, 80, rfl⟩
abbrev main_call0_call0_v41 : Ref sig .tc := ⟨.hbm, 81, rfl⟩
abbrev main_call0_call0_v42 : Ref sig .tc := ⟨.hbm, 82, rfl⟩
abbrev main_call0_call0_c_10 : Ref sig .tc := ⟨.hbm, 83, rfl⟩
abbrev main_call0_call0_v43 : Ref sig .tc := ⟨.hbm, 84, rfl⟩
abbrev main_call0_call0_v44 : Ref sig .tc := ⟨.hbm, 85, rfl⟩
abbrev main_call0_call0_v45 : Ref sig .tc := ⟨.hbm, 86, rfl⟩
abbrev main_call0_call0_v46 : Ref sig .tc := ⟨.hbm, 87, rfl⟩
abbrev main_call0_call0_v47 : Ref sig .tc := ⟨.hbm, 88, rfl⟩
abbrev main_call0_call0_c_11 : Ref sig .tc := ⟨.hbm, 89, rfl⟩
abbrev main_call0_call0_v48 : Ref sig .tc := ⟨.hbm, 90, rfl⟩
abbrev main_call0_call0_v49 : Ref sig .tc := ⟨.hbm, 91, rfl⟩
abbrev main_call0_call0_c_12 : Ref sig .tc := ⟨.hbm, 92, rfl⟩
abbrev main_call0_call0_v50 : Ref sig .tc := ⟨.hbm, 93, rfl⟩
abbrev main_call0_call0_v51 : Ref sig .tc := ⟨.hbm, 94, rfl⟩
abbrev main_call0_call0_v52 : Ref sig .tc := ⟨.hbm, 95, rfl⟩
abbrev main_call0_call0_v53 : Ref sig .tc := ⟨.hbm, 96, rfl⟩
abbrev main_call0_call0_v54 : Ref sig .tc := ⟨.hbm, 97, rfl⟩
abbrev main_call0_call0_c_13 : Ref sig .tc := ⟨.hbm, 98, rfl⟩
abbrev main_call0_call0_v55 : Ref sig .tc := ⟨.hbm, 99, rfl⟩
abbrev main_call0_call0_v56 : Ref sig .tc := ⟨.hbm, 100, rfl⟩
abbrev main_call0_call0_c_14 : Ref sig .tc := ⟨.hbm, 101, rfl⟩
abbrev main_call0_call0_v57 : Ref sig .tc := ⟨.hbm, 102, rfl⟩
abbrev main_call0_call0_v58 : Ref sig .tc := ⟨.hbm, 103, rfl⟩
abbrev main_call0_call0_v59 : Ref sig .tc := ⟨.hbm, 104, rfl⟩
abbrev main_call0_call0_v60 : Ref sig .tc := ⟨.hbm, 105, rfl⟩
abbrev main_call0_call0_v61 : Ref sig .tc := ⟨.hbm, 106, rfl⟩
abbrev main_call0_call0_c_15 : Ref sig .tc := ⟨.hbm, 107, rfl⟩
abbrev main_call0_call0_v62 : Ref sig .tc := ⟨.hbm, 108, rfl⟩
abbrev main_call0_call0_v63 : Ref sig .tc := ⟨.hbm, 109, rfl⟩
abbrev main_call0_call0_c_16 : Ref sig .tc := ⟨.hbm, 110, rfl⟩
abbrev main_call0_call0_v64 : Ref sig .tc := ⟨.hbm, 111, rfl⟩
abbrev main_call0_call0_v65 : Ref sig .tc := ⟨.hbm, 112, rfl⟩
abbrev main_call0_call0_v66 : Ref sig .tc := ⟨.hbm, 113, rfl⟩
abbrev main_call0_call0_v67 : Ref sig .tc := ⟨.hbm, 114, rfl⟩
abbrev main_call0_call0_v68 : Ref sig .tc := ⟨.hbm, 115, rfl⟩
abbrev main_call0_call0_v69 : Ref sig .tc := ⟨.hbm, 116, rfl⟩
abbrev main_call0_call0_v70 : Ref sig .tc := ⟨.hbm, 117, rfl⟩
abbrev main_call0_call0_v71 : Ref sig .tc := ⟨.hbm, 118, rfl⟩
abbrev main_call0_call0_c_17 : Ref sig .tc := ⟨.hbm, 119, rfl⟩
abbrev main_call0_call0_v72 : Ref sig .tc := ⟨.hbm, 120, rfl⟩
abbrev main_call0_call0_v73 : Ref sig .tc := ⟨.hbm, 121, rfl⟩
abbrev main_call0_call0_v74 : Ref sig .tc := ⟨.hbm, 122, rfl⟩
abbrev main_call0_call0_c_18 : Ref sig .tc := ⟨.hbm, 123, rfl⟩
abbrev main_call0_call0_v75 : Ref sig .tc := ⟨.hbm, 124, rfl⟩
abbrev main_call0_call0_v76 : Ref sig .tc := ⟨.hbm, 125, rfl⟩
abbrev main_call0_call0_c_19 : Ref sig .tc := ⟨.hbm, 126, rfl⟩
abbrev main_call0_call0_v77 : Ref sig .tc := ⟨.hbm, 127, rfl⟩
abbrev main_call0_call0_v78 : Ref sig .tc := ⟨.hbm, 128, rfl⟩
abbrev main_call0_call0_v79 : Ref sig .tc := ⟨.hbm, 129, rfl⟩
abbrev main_call0_call0_v80 : Ref sig .tc := ⟨.hbm, 130, rfl⟩
abbrev main_call0_call0_v81 : Ref sig .tc := ⟨.hbm, 131, rfl⟩
abbrev main_call0_call0_c_20 : Ref sig .tc := ⟨.hbm, 132, rfl⟩
abbrev main_call0_call0_v82 : Ref sig .tc := ⟨.hbm, 133, rfl⟩
abbrev main_call0_call0_v83 : Ref sig .tc := ⟨.hbm, 134, rfl⟩
abbrev main_call0_call0_c_21 : Ref sig .tc := ⟨.hbm, 135, rfl⟩
abbrev main_call0_call0_v84 : Ref sig .tc := ⟨.hbm, 136, rfl⟩
abbrev main_call0_call0_v85 : Ref sig .tc := ⟨.hbm, 137, rfl⟩
abbrev main_call0_call0_v86 : Ref sig .tc := ⟨.hbm, 138, rfl⟩
abbrev main_call0_call0_v87 : Ref sig .tc := ⟨.hbm, 139, rfl⟩
abbrev main_call0_call0_v88 : Ref sig .tc := ⟨.hbm, 140, rfl⟩
abbrev main_call0_call0_c_22 : Ref sig .tc := ⟨.hbm, 141, rfl⟩
abbrev main_call0_call0_v89 : Ref sig .tc := ⟨.hbm, 142, rfl⟩
abbrev main_call0_call0_v90 : Ref sig .tc := ⟨.hbm, 143, rfl⟩
abbrev main_call0_call0_c_23 : Ref sig .tc := ⟨.hbm, 144, rfl⟩
abbrev main_call0_call0_v91 : Ref sig .tc := ⟨.hbm, 145, rfl⟩
abbrev main_call0_call0_v92 : Ref sig .tc := ⟨.hbm, 146, rfl⟩
abbrev main_call0_call0_v93 : Ref sig .tc := ⟨.hbm, 147, rfl⟩
abbrev main_call0_call0_v94 : Ref sig .tc := ⟨.hbm, 148, rfl⟩
abbrev main_call0_call0_v95 : Ref sig .tc := ⟨.hbm, 149, rfl⟩
abbrev main_call0_call0_c_24 : Ref sig .tc := ⟨.hbm, 150, rfl⟩
abbrev main_call0_call0_v96 : Ref sig .tc := ⟨.hbm, 151, rfl⟩
abbrev main_call0_call0_v97 : Ref sig .tc := ⟨.hbm, 152, rfl⟩
abbrev main_call0_call0_c_25 : Ref sig .tc := ⟨.hbm, 153, rfl⟩
abbrev main_call0_call0_v98 : Ref sig .tc := ⟨.hbm, 154, rfl⟩
abbrev main_call0_call0_v99 : Ref sig .tc := ⟨.hbm, 155, rfl⟩
abbrev main_call0_call0_v100 : Ref sig .tc := ⟨.hbm, 156, rfl⟩
abbrev main_call0_call0_v101 : Ref sig .tc := ⟨.hbm, 157, rfl⟩
abbrev main_call0_call0_v102 : Ref sig .tc := ⟨.hbm, 158, rfl⟩
abbrev main_call0_call0_v103 : Ref sig .tc := ⟨.hbm, 159, rfl⟩
abbrev main_call0_call0_v104 : Ref sig .tc := ⟨.hbm, 160, rfl⟩
abbrev main_call0_call0_v105 : Ref sig .tc := ⟨.hbm, 161, rfl⟩
abbrev main_call0_call0_c_26 : Ref sig .tc := ⟨.hbm, 162, rfl⟩
abbrev main_call0_call0_v106 : Ref sig .tc := ⟨.hbm, 163, rfl⟩
abbrev main_call0_call0_v107 : Ref sig .tc := ⟨.hbm, 164, rfl⟩
abbrev main_call0_call0_v108 : Ref sig .tc := ⟨.hbm, 165, rfl⟩
abbrev main_call0_call0_c_27 : Ref sig .tc := ⟨.hbm, 166, rfl⟩
abbrev main_call0_call0_v109 : Ref sig .tc := ⟨.hbm, 167, rfl⟩
abbrev main_call0_call0_v110 : Ref sig .tc := ⟨.hbm, 168, rfl⟩
abbrev main_call0_call0_c_28 : Ref sig .tc := ⟨.hbm, 169, rfl⟩
abbrev main_call0_call0_v111 : Ref sig .tc := ⟨.hbm, 170, rfl⟩
abbrev main_call0_call0_v112 : Ref sig .tc := ⟨.hbm, 171, rfl⟩
abbrev main_call0_call0_v113 : Ref sig .tc := ⟨.hbm, 172, rfl⟩
abbrev main_call0_call0_v114 : Ref sig .tc := ⟨.hbm, 173, rfl⟩
abbrev main_call0_call0_v115 : Ref sig .tc := ⟨.hbm, 174, rfl⟩
abbrev main_call0_call0_c_29 : Ref sig .tc := ⟨.hbm, 175, rfl⟩
abbrev main_call0_call0_v116 : Ref sig .tc := ⟨.hbm, 176, rfl⟩
abbrev main_call0_call0_v117 : Ref sig .tc := ⟨.hbm, 177, rfl⟩
abbrev main_call0_call0_c_30 : Ref sig .tc := ⟨.hbm, 178, rfl⟩
abbrev main_call0_call0_v118 : Ref sig .tc := ⟨.hbm, 179, rfl⟩
abbrev main_call0_call0_v119 : Ref sig .tc := ⟨.hbm, 180, rfl⟩
abbrev main_call0_call0_v120 : Ref sig .tc := ⟨.hbm, 181, rfl⟩
abbrev main_call0_call0_v121 : Ref sig .tc := ⟨.hbm, 182, rfl⟩
abbrev main_call0_call0_v122 : Ref sig .tc := ⟨.hbm, 183, rfl⟩
abbrev main_call0_call0_c_31 : Ref sig .tc := ⟨.hbm, 184, rfl⟩
abbrev main_call0_call0_v123 : Ref sig .tc := ⟨.hbm, 185, rfl⟩
abbrev main_call0_call0_v124 : Ref sig .tc := ⟨.hbm, 186, rfl⟩
abbrev main_call0_call0_c_32 : Ref sig .tc := ⟨.hbm, 187, rfl⟩
abbrev main_call0_call0_v125 : Ref sig .tc := ⟨.hbm, 188, rfl⟩
abbrev main_call0_call0_v126 : Ref sig .tc := ⟨.hbm, 189, rfl⟩
abbrev main_call0_call0_v127 : Ref sig .tc := ⟨.hbm, 190, rfl⟩
abbrev main_call0_call0_v128 : Ref sig .tc := ⟨.hbm, 191, rfl⟩
abbrev main_call0_call0_v129 : Ref sig .tc := ⟨.hbm, 192, rfl⟩
abbrev main_call0_call0_c_33 : Ref sig .tc := ⟨.hbm, 193, rfl⟩
abbrev main_call0_call0_v130 : Ref sig .tc := ⟨.hbm, 194, rfl⟩
abbrev main_call0_call0_v131 : Ref sig .tc := ⟨.hbm, 195, rfl⟩
abbrev main_call0_call0_c_34 : Ref sig .tc := ⟨.hbm, 196, rfl⟩
abbrev main_call0_call0_v132 : Ref sig .tc := ⟨.hbm, 197, rfl⟩
abbrev main_call0_call0_v133 : Ref sig .tc := ⟨.hbm, 198, rfl⟩
abbrev main_call0_call0_v134 : Ref sig .tc := ⟨.hbm, 199, rfl⟩
abbrev main_call0_call0_v135 : Ref sig .tc := ⟨.hbm, 200, rfl⟩
abbrev main_call0_call0_v136 : Ref sig .tc := ⟨.hbm, 201, rfl⟩
abbrev main_call0_call0_v137 : Ref sig .tc := ⟨.hbm, 202, rfl⟩
abbrev main_call0_call0_v138 : Ref sig .tc := ⟨.hbm, 203, rfl⟩
abbrev main_call0_call0_v139 : Ref sig .tc := ⟨.hbm, 204, rfl⟩
abbrev main_call0_call0_c_35 : Ref sig .tc := ⟨.hbm, 205, rfl⟩
abbrev main_call0_call0_v140 : Ref sig .tc := ⟨.hbm, 206, rfl⟩
abbrev main_call0_call0_v141 : Ref sig .tc := ⟨.hbm, 207, rfl⟩
abbrev main_call0_call0_v142 : Ref sig .tc := ⟨.hbm, 208, rfl⟩
abbrev main_call0_call0_c_36 : Ref sig .tc := ⟨.hbm, 209, rfl⟩
abbrev main_call0_call0_v143 : Ref sig .tc := ⟨.hbm, 210, rfl⟩
abbrev main_call0_call0_v144 : Ref sig .tc := ⟨.hbm, 211, rfl⟩
abbrev main_call0_call0_c_37 : Ref sig .tc := ⟨.hbm, 212, rfl⟩
abbrev main_call0_call0_v145 : Ref sig .tc := ⟨.hbm, 213, rfl⟩
abbrev main_call0_call0_v146 : Ref sig .tc := ⟨.hbm, 214, rfl⟩
abbrev main_call0_call0_v147 : Ref sig .tc := ⟨.hbm, 215, rfl⟩
abbrev main_call0_call0_v148 : Ref sig .tc := ⟨.hbm, 216, rfl⟩
abbrev main_call0_call0_v149 : Ref sig .tc := ⟨.hbm, 217, rfl⟩
abbrev main_call0_call0_c_38 : Ref sig .tc := ⟨.hbm, 218, rfl⟩
abbrev main_call0_call0_v150 : Ref sig .tc := ⟨.hbm, 219, rfl⟩
abbrev main_call0_call0_v151 : Ref sig .tc := ⟨.hbm, 220, rfl⟩
abbrev main_call0_call0_c_39 : Ref sig .tc := ⟨.hbm, 221, rfl⟩
abbrev main_call0_call0_v152 : Ref sig .tc := ⟨.hbm, 222, rfl⟩
abbrev main_call0_call0_v153 : Ref sig .tc := ⟨.hbm, 223, rfl⟩
abbrev main_call0_call0_v154 : Ref sig .tc := ⟨.hbm, 224, rfl⟩
abbrev main_call0_call0_v155 : Ref sig .tc := ⟨.hbm, 225, rfl⟩
abbrev main_call0_call0_v156 : Ref sig .tc := ⟨.hbm, 226, rfl⟩
abbrev main_call0_call0_c_40 : Ref sig .tc := ⟨.hbm, 227, rfl⟩
abbrev main_call0_call0_v157 : Ref sig .tc := ⟨.hbm, 228, rfl⟩
abbrev main_call0_call0_v158 : Ref sig .tc := ⟨.hbm, 229, rfl⟩
abbrev main_call0_call0_c_41 : Ref sig .tc := ⟨.hbm, 230, rfl⟩
abbrev main_call0_call0_v159 : Ref sig .tc := ⟨.hbm, 231, rfl⟩
abbrev main_call0_call0_v160 : Ref sig .tc := ⟨.hbm, 232, rfl⟩
abbrev main_call0_call0_v161 : Ref sig .tc := ⟨.hbm, 233, rfl⟩
abbrev main_call0_call0_v162 : Ref sig .tc := ⟨.hbm, 234, rfl⟩
abbrev main_call0_call0_v163 : Ref sig .tc := ⟨.hbm, 235, rfl⟩
abbrev main_call0_call0_c_42 : Ref sig .tc := ⟨.hbm, 236, rfl⟩
abbrev main_call0_call0_v164 : Ref sig .tc := ⟨.hbm, 237, rfl⟩
abbrev main_call0_call0_v165 : Ref sig .tc := ⟨.hbm, 238, rfl⟩
abbrev main_call0_call0_c_43 : Ref sig .tc := ⟨.hbm, 239, rfl⟩
abbrev main_call0_call0_v166 : Ref sig .tc := ⟨.hbm, 240, rfl⟩
abbrev main_call0_call0_v167 : Ref sig .tc := ⟨.hbm, 241, rfl⟩
abbrev main_call0_call0_v168 : Ref sig .tc := ⟨.hbm, 242, rfl⟩
abbrev main_call0_call0_v169 : Ref sig .tc := ⟨.hbm, 243, rfl⟩
abbrev main_call0_call0_v170 : Ref sig .tc := ⟨.hbm, 244, rfl⟩
abbrev main_call0_v11_0 : Ref sig .tc := ⟨.hbm, 245, rfl⟩
abbrev main_call0_call0_v172 : Ref sig .tc := ⟨.hbm, 246, rfl⟩
abbrev main_call0_call0_v173 : Ref sig .tc := ⟨.hbm, 247, rfl⟩
abbrev main_call0_call0_c_44 : Ref sig .tc := ⟨.hbm, 248, rfl⟩
abbrev main_call0_call0_v174 : Ref sig .tc := ⟨.hbm, 249, rfl⟩
abbrev main_call0_v11_1 : Ref sig .tc := ⟨.hbm, 250, rfl⟩
abbrev main_call0_v12 : Ref sig .tc := ⟨.hbm, 251, rfl⟩
abbrev main_call0_v13 : Ref sig .tc := ⟨.hbm, 252, rfl⟩
abbrev main_v7 : Ref sig .tc := ⟨.hbm, 253, rfl⟩
abbrev main_v8 : Ref sig .tc := ⟨.hbm, 254, rfl⟩
abbrev main_v9 : Ref sig .tc := ⟨.hbm, 255, rfl⟩
abbrev main_v10 : Ref sig .tc := ⟨.hbm, 256, rfl⟩
abbrev main_v11 : Ref sig .tc := ⟨.hbm, 257, rfl⟩
abbrev main_call1_c : Ref sig .tc := ⟨.hbm, 258, rfl⟩
abbrev main_call1_v0 : Ref sig .tc := ⟨.hbm, 259, rfl⟩
abbrev main_call1_v1 : Ref sig .tc := ⟨.hbm, 260, rfl⟩
abbrev main_call1_c_0 : Ref sig .tc := ⟨.hbm, 261, rfl⟩
abbrev main_call1_v2 : Ref sig .tc := ⟨.hbm, 262, rfl⟩
abbrev main_call1_v3 : Ref sig .tc := ⟨.hbm, 263, rfl⟩
abbrev main_call1_v4 : Ref sig .tc := ⟨.hbm, 264, rfl⟩
abbrev main_call1_v5 : Ref sig .tc := ⟨.hbm, 265, rfl⟩
abbrev main_call1_c_1 : Ref sig .tc := ⟨.hbm, 266, rfl⟩
abbrev main_call1_c_2 : Ref sig .tc := ⟨.hbm, 267, rfl⟩
abbrev main_call1_v6 : Ref sig .tc := ⟨.hbm, 268, rfl⟩
abbrev main_call1_v7 : Ref sig .tc := ⟨.hbm, 269, rfl⟩
abbrev main_call1_v8 : Ref sig .tc := ⟨.hbm, 270, rfl⟩
abbrev main_call1_v9 : Ref sig .tc := ⟨.hbm, 271, rfl⟩
abbrev main_call1_v10 : Ref sig .tc := ⟨.hbm, 272, rfl⟩
abbrev main_call1_v11 : Ref sig .tc := ⟨.hbm, 273, rfl⟩
abbrev main_call1_c_3 : Ref sig .tc := ⟨.hbm, 274, rfl⟩
abbrev main_call1_v12 : Ref sig .tc := ⟨.hbm, 275, rfl⟩
abbrev main_call1_v13 : Ref sig .tc := ⟨.hbm, 276, rfl⟩
abbrev main_call1_v14 : Ref sig .tc := ⟨.hbm, 277, rfl⟩
abbrev main_call1_cst : Ref sig .tc := ⟨.hbm, 278, rfl⟩
abbrev main_call1_v15 : Ref sig .tc := ⟨.hbm, 279, rfl⟩
abbrev main_v12 : Ref sig .tc := ⟨.hbm, 280, rfl⟩
abbrev main_call2_c : Ref sig .tc := ⟨.hbm, 281, rfl⟩
abbrev main_call2_v0 : Ref sig .tc := ⟨.hbm, 282, rfl⟩
abbrev main_call2_v1 : Ref sig .tc := ⟨.hbm, 283, rfl⟩
abbrev main_call2_c_0 : Ref sig .tc := ⟨.hbm, 284, rfl⟩
abbrev main_call2_v2 : Ref sig .tc := ⟨.hbm, 285, rfl⟩
abbrev main_call2_v3 : Ref sig .tc := ⟨.hbm, 286, rfl⟩
abbrev main_call2_v4 : Ref sig .tc := ⟨.hbm, 287, rfl⟩
abbrev main_call2_v5 : Ref sig .tc := ⟨.hbm, 288, rfl⟩
abbrev main_call2_c_1 : Ref sig .tc := ⟨.hbm, 289, rfl⟩
abbrev main_call2_c_2 : Ref sig .tc := ⟨.hbm, 290, rfl⟩
abbrev main_call2_v6 : Ref sig .tc := ⟨.hbm, 291, rfl⟩
abbrev main_call2_v7 : Ref sig .tc := ⟨.hbm, 292, rfl⟩
abbrev main_call2_v8 : Ref sig .tc := ⟨.hbm, 293, rfl⟩
abbrev main_call2_v9 : Ref sig .tc := ⟨.hbm, 294, rfl⟩
abbrev main_call2_v10 : Ref sig .tc := ⟨.hbm, 295, rfl⟩
abbrev main_call2_v11 : Ref sig .tc := ⟨.hbm, 296, rfl⟩
abbrev main_call2_c_3 : Ref sig .tc := ⟨.hbm, 297, rfl⟩
abbrev main_call2_v12 : Ref sig .tc := ⟨.hbm, 298, rfl⟩
abbrev main_call2_v13 : Ref sig .tc := ⟨.hbm, 299, rfl⟩
abbrev main_call2_v14 : Ref sig .tc := ⟨.hbm, 300, rfl⟩
abbrev main_call2_cst : Ref sig .tc := ⟨.hbm, 301, rfl⟩
abbrev main_call2_v15 : Ref sig .tc := ⟨.hbm, 302, rfl⟩
abbrev main_v13 : Ref sig .tc := ⟨.hbm, 303, rfl⟩
abbrev main_v14 : Ref sig .tc := ⟨.hbm, 304, rfl⟩
abbrev main_cst : Ref sig .tc := ⟨.hbm, 305, rfl⟩
abbrev main_cst_2 : Ref sig .tc := ⟨.hbm, 306, rfl⟩
abbrev main_call3_v0 : Ref sig .tc := ⟨.hbm, 307, rfl⟩
abbrev main_call3_v1 : Ref sig .tc := ⟨.hbm, 308, rfl⟩
abbrev main_call3_v2 : Ref sig .tc := ⟨.hbm, 309, rfl⟩
abbrev main_call3_v3 : Ref sig .tc := ⟨.hbm, 310, rfl⟩
abbrev main_call3_v4 : Ref sig .tc := ⟨.hbm, 311, rfl⟩
abbrev main_call3_v5 : Ref sig .tc := ⟨.hbm, 312, rfl⟩
abbrev main_call3_v6 : Ref sig .tc := ⟨.hbm, 313, rfl⟩
abbrev main_call3_v7 : Ref sig .tc := ⟨.hbm, 314, rfl⟩
abbrev main_call3_v8 : Ref sig .tc := ⟨.hbm, 315, rfl⟩
abbrev main_call3_v9 : Ref sig .tc := ⟨.hbm, 316, rfl⟩
abbrev main_call3_c : Ref sig .tc := ⟨.hbm, 317, rfl⟩
abbrev main_call3_v10 : Ref sig .tc := ⟨.hbm, 318, rfl⟩
abbrev main_call3_v11 : Ref sig .tc := ⟨.hbm, 319, rfl⟩
abbrev main_call3_c_0 : Ref sig .tc := ⟨.hbm, 320, rfl⟩
abbrev main_call3_v12 : Ref sig .tc := ⟨.hbm, 321, rfl⟩
abbrev main_call3_v13 : Ref sig .tc := ⟨.hbm, 322, rfl⟩
abbrev main_call3_c_1 : Ref sig .tc := ⟨.hbm, 323, rfl⟩
abbrev main_call3_v14 : Ref sig .tc := ⟨.hbm, 324, rfl⟩
abbrev main_call3_v15 : Ref sig .tc := ⟨.hbm, 325, rfl⟩
abbrev main_call3_v16 : Ref sig .tc := ⟨.hbm, 326, rfl⟩
abbrev main_call3_v17 : Ref sig .tc := ⟨.hbm, 327, rfl⟩
abbrev main_call3_c_2 : Ref sig .tc := ⟨.hbm, 328, rfl⟩
abbrev main_call3_v18 : Ref sig .tc := ⟨.hbm, 329, rfl⟩
abbrev main_call3_v19 : Ref sig .tc := ⟨.hbm, 330, rfl⟩
abbrev main_call3_v20 : Ref sig .tc := ⟨.hbm, 331, rfl⟩
abbrev main_call3_v21 : Ref sig .tc := ⟨.hbm, 332, rfl⟩
abbrev main_call3_call0_v0 : Ref sig .tc := ⟨.hbm, 333, rfl⟩
abbrev main_call3_call0_c : Ref sig .tc := ⟨.hbm, 334, rfl⟩
abbrev main_call3_call0_v1 : Ref sig .tc := ⟨.hbm, 335, rfl⟩
abbrev main_call3_call0_v2 : Ref sig .tc := ⟨.hbm, 336, rfl⟩
abbrev main_call3_call0_v3 : Ref sig .tc := ⟨.hbm, 337, rfl⟩
abbrev main_call3_call0_v4 : Ref sig .tc := ⟨.hbm, 338, rfl⟩
abbrev main_call3_call0_v5 : Ref sig .tc := ⟨.hbm, 339, rfl⟩
abbrev main_call3_call0_v6 : Ref sig .tc := ⟨.hbm, 340, rfl⟩
abbrev main_call3_call0_c_0 : Ref sig .tc := ⟨.hbm, 341, rfl⟩
abbrev main_call3_call0_v7 : Ref sig .tc := ⟨.hbm, 342, rfl⟩
abbrev main_call3_call0_v8 : Ref sig .tc := ⟨.hbm, 343, rfl⟩
abbrev main_call3_call0_c_1 : Ref sig .tc := ⟨.hbm, 344, rfl⟩
abbrev main_call3_call0_v9 : Ref sig .tc := ⟨.hbm, 345, rfl⟩
abbrev main_call3_call0_v10 : Ref sig .tc := ⟨.hbm, 346, rfl⟩
abbrev main_call3_call0_v11 : Ref sig .tc := ⟨.hbm, 347, rfl⟩
abbrev main_call3_call0_v12 : Ref sig .tc := ⟨.hbm, 348, rfl⟩
abbrev main_call3_call0_v13 : Ref sig .tc := ⟨.hbm, 349, rfl⟩
abbrev main_call3_call0_c_2 : Ref sig .tc := ⟨.hbm, 350, rfl⟩
abbrev main_call3_call0_v14 : Ref sig .tc := ⟨.hbm, 351, rfl⟩
abbrev main_call3_call0_v15 : Ref sig .tc := ⟨.hbm, 352, rfl⟩
abbrev main_call3_call0_c_3 : Ref sig .tc := ⟨.hbm, 353, rfl⟩
abbrev main_call3_call0_v16 : Ref sig .tc := ⟨.hbm, 354, rfl⟩
abbrev main_call3_call0_v17 : Ref sig .tc := ⟨.hbm, 355, rfl⟩
abbrev main_call3_call0_v18 : Ref sig .tc := ⟨.hbm, 356, rfl⟩
abbrev main_call3_call0_v19 : Ref sig .tc := ⟨.hbm, 357, rfl⟩
abbrev main_call3_call0_v20 : Ref sig .tc := ⟨.hbm, 358, rfl⟩
abbrev main_call3_call0_c_4 : Ref sig .tc := ⟨.hbm, 359, rfl⟩
abbrev main_call3_call0_v21 : Ref sig .tc := ⟨.hbm, 360, rfl⟩
abbrev main_call3_call0_v22 : Ref sig .tc := ⟨.hbm, 361, rfl⟩
abbrev main_call3_call0_c_5 : Ref sig .tc := ⟨.hbm, 362, rfl⟩
abbrev main_call3_call0_v23 : Ref sig .tc := ⟨.hbm, 363, rfl⟩
abbrev main_call3_call0_v24 : Ref sig .tc := ⟨.hbm, 364, rfl⟩
abbrev main_call3_call0_v25 : Ref sig .tc := ⟨.hbm, 365, rfl⟩
abbrev main_call3_call0_v26 : Ref sig .tc := ⟨.hbm, 366, rfl⟩
abbrev main_call3_call0_v27 : Ref sig .tc := ⟨.hbm, 367, rfl⟩
abbrev main_call3_call0_c_6 : Ref sig .tc := ⟨.hbm, 368, rfl⟩
abbrev main_call3_call0_v28 : Ref sig .tc := ⟨.hbm, 369, rfl⟩
abbrev main_call3_call0_v29 : Ref sig .tc := ⟨.hbm, 370, rfl⟩
abbrev main_call3_call0_c_7 : Ref sig .tc := ⟨.hbm, 371, rfl⟩
abbrev main_call3_call0_v30 : Ref sig .tc := ⟨.hbm, 372, rfl⟩
abbrev main_call3_call0_v31 : Ref sig .tc := ⟨.hbm, 373, rfl⟩
abbrev main_call3_call0_v32 : Ref sig .tc := ⟨.hbm, 374, rfl⟩
abbrev main_call3_call0_v33 : Ref sig .tc := ⟨.hbm, 375, rfl⟩
abbrev main_call3_call0_v34 : Ref sig .tc := ⟨.hbm, 376, rfl⟩
abbrev main_call3_call0_v35 : Ref sig .tc := ⟨.hbm, 377, rfl⟩
abbrev main_call3_call0_v36 : Ref sig .tc := ⟨.hbm, 378, rfl⟩
abbrev main_call3_call0_v37 : Ref sig .tc := ⟨.hbm, 379, rfl⟩
abbrev main_call3_call0_c_8 : Ref sig .tc := ⟨.hbm, 380, rfl⟩
abbrev main_call3_call0_v38 : Ref sig .tc := ⟨.hbm, 381, rfl⟩
abbrev main_call3_call0_v39 : Ref sig .tc := ⟨.hbm, 382, rfl⟩
abbrev main_call3_call0_v40 : Ref sig .tc := ⟨.hbm, 383, rfl⟩
abbrev main_call3_call0_c_9 : Ref sig .tc := ⟨.hbm, 384, rfl⟩
abbrev main_call3_call0_v41 : Ref sig .tc := ⟨.hbm, 385, rfl⟩
abbrev main_call3_call0_v42 : Ref sig .tc := ⟨.hbm, 386, rfl⟩
abbrev main_call3_call0_c_10 : Ref sig .tc := ⟨.hbm, 387, rfl⟩
abbrev main_call3_call0_v43 : Ref sig .tc := ⟨.hbm, 388, rfl⟩
abbrev main_call3_call0_v44 : Ref sig .tc := ⟨.hbm, 389, rfl⟩
abbrev main_call3_call0_v45 : Ref sig .tc := ⟨.hbm, 390, rfl⟩
abbrev main_call3_call0_v46 : Ref sig .tc := ⟨.hbm, 391, rfl⟩
abbrev main_call3_call0_v47 : Ref sig .tc := ⟨.hbm, 392, rfl⟩
abbrev main_call3_call0_c_11 : Ref sig .tc := ⟨.hbm, 393, rfl⟩
abbrev main_call3_call0_v48 : Ref sig .tc := ⟨.hbm, 394, rfl⟩
abbrev main_call3_call0_v49 : Ref sig .tc := ⟨.hbm, 395, rfl⟩
abbrev main_call3_call0_c_12 : Ref sig .tc := ⟨.hbm, 396, rfl⟩
abbrev main_call3_call0_v50 : Ref sig .tc := ⟨.hbm, 397, rfl⟩
abbrev main_call3_call0_v51 : Ref sig .tc := ⟨.hbm, 398, rfl⟩
abbrev main_call3_call0_v52 : Ref sig .tc := ⟨.hbm, 399, rfl⟩
abbrev main_call3_call0_v53 : Ref sig .tc := ⟨.hbm, 400, rfl⟩
abbrev main_call3_call0_v54 : Ref sig .tc := ⟨.hbm, 401, rfl⟩
abbrev main_call3_call0_c_13 : Ref sig .tc := ⟨.hbm, 402, rfl⟩
abbrev main_call3_call0_v55 : Ref sig .tc := ⟨.hbm, 403, rfl⟩
abbrev main_call3_call0_v56 : Ref sig .tc := ⟨.hbm, 404, rfl⟩
abbrev main_call3_call0_c_14 : Ref sig .tc := ⟨.hbm, 405, rfl⟩
abbrev main_call3_call0_v57 : Ref sig .tc := ⟨.hbm, 406, rfl⟩
abbrev main_call3_call0_v58 : Ref sig .tc := ⟨.hbm, 407, rfl⟩
abbrev main_call3_call0_v59 : Ref sig .tc := ⟨.hbm, 408, rfl⟩
abbrev main_call3_call0_v60 : Ref sig .tc := ⟨.hbm, 409, rfl⟩
abbrev main_call3_call0_v61 : Ref sig .tc := ⟨.hbm, 410, rfl⟩
abbrev main_call3_call0_c_15 : Ref sig .tc := ⟨.hbm, 411, rfl⟩
abbrev main_call3_call0_v62 : Ref sig .tc := ⟨.hbm, 412, rfl⟩
abbrev main_call3_call0_v63 : Ref sig .tc := ⟨.hbm, 413, rfl⟩
abbrev main_call3_call0_c_16 : Ref sig .tc := ⟨.hbm, 414, rfl⟩
abbrev main_call3_call0_v64 : Ref sig .tc := ⟨.hbm, 415, rfl⟩
abbrev main_call3_call0_v65 : Ref sig .tc := ⟨.hbm, 416, rfl⟩
abbrev main_call3_call0_v66 : Ref sig .tc := ⟨.hbm, 417, rfl⟩
abbrev main_call3_call0_v67 : Ref sig .tc := ⟨.hbm, 418, rfl⟩
abbrev main_call3_call0_v68 : Ref sig .tc := ⟨.hbm, 419, rfl⟩
abbrev main_call3_call0_v69 : Ref sig .tc := ⟨.hbm, 420, rfl⟩
abbrev main_call3_call0_v70 : Ref sig .tc := ⟨.hbm, 421, rfl⟩
abbrev main_call3_call0_v71 : Ref sig .tc := ⟨.hbm, 422, rfl⟩
abbrev main_call3_call0_c_17 : Ref sig .tc := ⟨.hbm, 423, rfl⟩
abbrev main_call3_call0_v72 : Ref sig .tc := ⟨.hbm, 424, rfl⟩
abbrev main_call3_call0_v73 : Ref sig .tc := ⟨.hbm, 425, rfl⟩
abbrev main_call3_call0_v74 : Ref sig .tc := ⟨.hbm, 426, rfl⟩
abbrev main_call3_call0_c_18 : Ref sig .tc := ⟨.hbm, 427, rfl⟩
abbrev main_call3_call0_v75 : Ref sig .tc := ⟨.hbm, 428, rfl⟩
abbrev main_call3_call0_v76 : Ref sig .tc := ⟨.hbm, 429, rfl⟩
abbrev main_call3_call0_c_19 : Ref sig .tc := ⟨.hbm, 430, rfl⟩
abbrev main_call3_call0_v77 : Ref sig .tc := ⟨.hbm, 431, rfl⟩
abbrev main_call3_call0_v78 : Ref sig .tc := ⟨.hbm, 432, rfl⟩
abbrev main_call3_call0_v79 : Ref sig .tc := ⟨.hbm, 433, rfl⟩
abbrev main_call3_call0_v80 : Ref sig .tc := ⟨.hbm, 434, rfl⟩
abbrev main_call3_call0_v81 : Ref sig .tc := ⟨.hbm, 435, rfl⟩
abbrev main_call3_call0_c_20 : Ref sig .tc := ⟨.hbm, 436, rfl⟩
abbrev main_call3_call0_v82 : Ref sig .tc := ⟨.hbm, 437, rfl⟩
abbrev main_call3_call0_v83 : Ref sig .tc := ⟨.hbm, 438, rfl⟩
abbrev main_call3_call0_c_21 : Ref sig .tc := ⟨.hbm, 439, rfl⟩
abbrev main_call3_call0_v84 : Ref sig .tc := ⟨.hbm, 440, rfl⟩
abbrev main_call3_call0_v85 : Ref sig .tc := ⟨.hbm, 441, rfl⟩
abbrev main_call3_call0_v86 : Ref sig .tc := ⟨.hbm, 442, rfl⟩
abbrev main_call3_call0_v87 : Ref sig .tc := ⟨.hbm, 443, rfl⟩
abbrev main_call3_call0_v88 : Ref sig .tc := ⟨.hbm, 444, rfl⟩
abbrev main_call3_call0_c_22 : Ref sig .tc := ⟨.hbm, 445, rfl⟩
abbrev main_call3_call0_v89 : Ref sig .tc := ⟨.hbm, 446, rfl⟩
abbrev main_call3_call0_v90 : Ref sig .tc := ⟨.hbm, 447, rfl⟩
abbrev main_call3_call0_c_23 : Ref sig .tc := ⟨.hbm, 448, rfl⟩
abbrev main_call3_call0_v91 : Ref sig .tc := ⟨.hbm, 449, rfl⟩
abbrev main_call3_call0_v92 : Ref sig .tc := ⟨.hbm, 450, rfl⟩
abbrev main_call3_call0_v93 : Ref sig .tc := ⟨.hbm, 451, rfl⟩
abbrev main_call3_call0_v94 : Ref sig .tc := ⟨.hbm, 452, rfl⟩
abbrev main_call3_call0_v95 : Ref sig .tc := ⟨.hbm, 453, rfl⟩
abbrev main_call3_call0_c_24 : Ref sig .tc := ⟨.hbm, 454, rfl⟩
abbrev main_call3_call0_v96 : Ref sig .tc := ⟨.hbm, 455, rfl⟩
abbrev main_call3_call0_v97 : Ref sig .tc := ⟨.hbm, 456, rfl⟩
abbrev main_call3_call0_c_25 : Ref sig .tc := ⟨.hbm, 457, rfl⟩
abbrev main_call3_call0_v98 : Ref sig .tc := ⟨.hbm, 458, rfl⟩
abbrev main_call3_call0_v99 : Ref sig .tc := ⟨.hbm, 459, rfl⟩
abbrev main_call3_call0_v100 : Ref sig .tc := ⟨.hbm, 460, rfl⟩
abbrev main_call3_call0_v101 : Ref sig .tc := ⟨.hbm, 461, rfl⟩
abbrev main_call3_call0_v102 : Ref sig .tc := ⟨.hbm, 462, rfl⟩
abbrev main_call3_call0_v103 : Ref sig .tc := ⟨.hbm, 463, rfl⟩
abbrev main_call3_call0_v104 : Ref sig .tc := ⟨.hbm, 464, rfl⟩
abbrev main_call3_call0_v105 : Ref sig .tc := ⟨.hbm, 465, rfl⟩
abbrev main_call3_call0_c_26 : Ref sig .tc := ⟨.hbm, 466, rfl⟩
abbrev main_call3_call0_v106 : Ref sig .tc := ⟨.hbm, 467, rfl⟩
abbrev main_call3_call0_v107 : Ref sig .tc := ⟨.hbm, 468, rfl⟩
abbrev main_call3_call0_v108 : Ref sig .tc := ⟨.hbm, 469, rfl⟩
abbrev main_call3_call0_c_27 : Ref sig .tc := ⟨.hbm, 470, rfl⟩
abbrev main_call3_call0_v109 : Ref sig .tc := ⟨.hbm, 471, rfl⟩
abbrev main_call3_call0_v110 : Ref sig .tc := ⟨.hbm, 472, rfl⟩
abbrev main_call3_call0_c_28 : Ref sig .tc := ⟨.hbm, 473, rfl⟩
abbrev main_call3_call0_v111 : Ref sig .tc := ⟨.hbm, 474, rfl⟩
abbrev main_call3_call0_v112 : Ref sig .tc := ⟨.hbm, 475, rfl⟩
abbrev main_call3_call0_v113 : Ref sig .tc := ⟨.hbm, 476, rfl⟩
abbrev main_call3_call0_v114 : Ref sig .tc := ⟨.hbm, 477, rfl⟩
abbrev main_call3_call0_v115 : Ref sig .tc := ⟨.hbm, 478, rfl⟩
abbrev main_call3_call0_c_29 : Ref sig .tc := ⟨.hbm, 479, rfl⟩
abbrev main_call3_call0_v116 : Ref sig .tc := ⟨.hbm, 480, rfl⟩
abbrev main_call3_call0_v117 : Ref sig .tc := ⟨.hbm, 481, rfl⟩
abbrev main_call3_call0_c_30 : Ref sig .tc := ⟨.hbm, 482, rfl⟩
abbrev main_call3_call0_v118 : Ref sig .tc := ⟨.hbm, 483, rfl⟩
abbrev main_call3_call0_v119 : Ref sig .tc := ⟨.hbm, 484, rfl⟩
abbrev main_call3_call0_v120 : Ref sig .tc := ⟨.hbm, 485, rfl⟩
abbrev main_call3_call0_v121 : Ref sig .tc := ⟨.hbm, 486, rfl⟩
abbrev main_call3_call0_v122 : Ref sig .tc := ⟨.hbm, 487, rfl⟩
abbrev main_call3_call0_c_31 : Ref sig .tc := ⟨.hbm, 488, rfl⟩
abbrev main_call3_call0_v123 : Ref sig .tc := ⟨.hbm, 489, rfl⟩
abbrev main_call3_call0_v124 : Ref sig .tc := ⟨.hbm, 490, rfl⟩
abbrev main_call3_call0_c_32 : Ref sig .tc := ⟨.hbm, 491, rfl⟩
abbrev main_call3_call0_v125 : Ref sig .tc := ⟨.hbm, 492, rfl⟩
abbrev main_call3_call0_v126 : Ref sig .tc := ⟨.hbm, 493, rfl⟩
abbrev main_call3_call0_v127 : Ref sig .tc := ⟨.hbm, 494, rfl⟩
abbrev main_call3_call0_v128 : Ref sig .tc := ⟨.hbm, 495, rfl⟩
abbrev main_call3_call0_v129 : Ref sig .tc := ⟨.hbm, 496, rfl⟩
abbrev main_call3_call0_c_33 : Ref sig .tc := ⟨.hbm, 497, rfl⟩
abbrev main_call3_call0_v130 : Ref sig .tc := ⟨.hbm, 498, rfl⟩
abbrev main_call3_call0_v131 : Ref sig .tc := ⟨.hbm, 499, rfl⟩
abbrev main_call3_call0_c_34 : Ref sig .tc := ⟨.hbm, 500, rfl⟩
abbrev main_call3_call0_v132 : Ref sig .tc := ⟨.hbm, 501, rfl⟩
abbrev main_call3_call0_v133 : Ref sig .tc := ⟨.hbm, 502, rfl⟩
abbrev main_call3_call0_v134 : Ref sig .tc := ⟨.hbm, 503, rfl⟩
abbrev main_call3_call0_v135 : Ref sig .tc := ⟨.hbm, 504, rfl⟩
abbrev main_call3_call0_v136 : Ref sig .tc := ⟨.hbm, 505, rfl⟩
abbrev main_call3_call0_v137 : Ref sig .tc := ⟨.hbm, 506, rfl⟩
abbrev main_call3_call0_v138 : Ref sig .tc := ⟨.hbm, 507, rfl⟩
abbrev main_call3_call0_v139 : Ref sig .tc := ⟨.hbm, 508, rfl⟩
abbrev main_call3_call0_c_35 : Ref sig .tc := ⟨.hbm, 509, rfl⟩
abbrev main_call3_call0_v140 : Ref sig .tc := ⟨.hbm, 510, rfl⟩
abbrev main_call3_call0_v141 : Ref sig .tc := ⟨.hbm, 511, rfl⟩
abbrev main_call3_call0_v142 : Ref sig .tc := ⟨.hbm, 512, rfl⟩
abbrev main_call3_call0_c_36 : Ref sig .tc := ⟨.hbm, 513, rfl⟩
abbrev main_call3_call0_v143 : Ref sig .tc := ⟨.hbm, 514, rfl⟩
abbrev main_call3_call0_v144 : Ref sig .tc := ⟨.hbm, 515, rfl⟩
abbrev main_call3_call0_c_37 : Ref sig .tc := ⟨.hbm, 516, rfl⟩
abbrev main_call3_call0_v145 : Ref sig .tc := ⟨.hbm, 517, rfl⟩
abbrev main_call3_call0_v146 : Ref sig .tc := ⟨.hbm, 518, rfl⟩
abbrev main_call3_call0_v147 : Ref sig .tc := ⟨.hbm, 519, rfl⟩
abbrev main_call3_call0_v148 : Ref sig .tc := ⟨.hbm, 520, rfl⟩
abbrev main_call3_call0_v149 : Ref sig .tc := ⟨.hbm, 521, rfl⟩
abbrev main_call3_call0_c_38 : Ref sig .tc := ⟨.hbm, 522, rfl⟩
abbrev main_call3_call0_v150 : Ref sig .tc := ⟨.hbm, 523, rfl⟩
abbrev main_call3_call0_v151 : Ref sig .tc := ⟨.hbm, 524, rfl⟩
abbrev main_call3_call0_c_39 : Ref sig .tc := ⟨.hbm, 525, rfl⟩
abbrev main_call3_call0_v152 : Ref sig .tc := ⟨.hbm, 526, rfl⟩
abbrev main_call3_call0_v153 : Ref sig .tc := ⟨.hbm, 527, rfl⟩
abbrev main_call3_call0_v154 : Ref sig .tc := ⟨.hbm, 528, rfl⟩
abbrev main_call3_call0_v155 : Ref sig .tc := ⟨.hbm, 529, rfl⟩
abbrev main_call3_call0_v156 : Ref sig .tc := ⟨.hbm, 530, rfl⟩
abbrev main_call3_call0_c_40 : Ref sig .tc := ⟨.hbm, 531, rfl⟩
abbrev main_call3_call0_v157 : Ref sig .tc := ⟨.hbm, 532, rfl⟩
abbrev main_call3_call0_v158 : Ref sig .tc := ⟨.hbm, 533, rfl⟩
abbrev main_call3_call0_c_41 : Ref sig .tc := ⟨.hbm, 534, rfl⟩
abbrev main_call3_call0_v159 : Ref sig .tc := ⟨.hbm, 535, rfl⟩
abbrev main_call3_call0_v160 : Ref sig .tc := ⟨.hbm, 536, rfl⟩
abbrev main_call3_call0_v161 : Ref sig .tc := ⟨.hbm, 537, rfl⟩
abbrev main_call3_call0_v162 : Ref sig .tc := ⟨.hbm, 538, rfl⟩
abbrev main_call3_call0_v163 : Ref sig .tc := ⟨.hbm, 539, rfl⟩
abbrev main_call3_call0_c_42 : Ref sig .tc := ⟨.hbm, 540, rfl⟩
abbrev main_call3_call0_v164 : Ref sig .tc := ⟨.hbm, 541, rfl⟩
abbrev main_call3_call0_v165 : Ref sig .tc := ⟨.hbm, 542, rfl⟩
abbrev main_call3_call0_c_43 : Ref sig .tc := ⟨.hbm, 543, rfl⟩
abbrev main_call3_call0_v166 : Ref sig .tc := ⟨.hbm, 544, rfl⟩
abbrev main_call3_call0_v167 : Ref sig .tc := ⟨.hbm, 545, rfl⟩
abbrev main_call3_call0_v168 : Ref sig .tc := ⟨.hbm, 546, rfl⟩
abbrev main_call3_call0_v169 : Ref sig .tc := ⟨.hbm, 547, rfl⟩
abbrev main_call3_call0_v170 : Ref sig .tc := ⟨.hbm, 548, rfl⟩
abbrev main_call3_v22_0 : Ref sig .tc := ⟨.hbm, 549, rfl⟩
abbrev main_call3_call0_v172 : Ref sig .tc := ⟨.hbm, 550, rfl⟩
abbrev main_call3_call0_v173 : Ref sig .tc := ⟨.hbm, 551, rfl⟩
abbrev main_call3_call0_c_44 : Ref sig .tc := ⟨.hbm, 552, rfl⟩
abbrev main_call3_call0_v174 : Ref sig .tc := ⟨.hbm, 553, rfl⟩
abbrev main_call3_v22_1 : Ref sig .tc := ⟨.hbm, 554, rfl⟩
abbrev main_call3_v23 : Ref sig .tc := ⟨.hbm, 555, rfl⟩
abbrev main_call3_c_3 : Ref sig .tc := ⟨.hbm, 556, rfl⟩
abbrev main_call3_v24 : Ref sig .tc := ⟨.hbm, 557, rfl⟩
abbrev main_call3_v25 : Ref sig .tc := ⟨.hbm, 558, rfl⟩
abbrev main_call3_c_4 : Ref sig .tc := ⟨.hbm, 559, rfl⟩
abbrev main_call3_v26 : Ref sig .tc := ⟨.hbm, 560, rfl⟩
abbrev main_call3_v27 : Ref sig .tc := ⟨.hbm, 561, rfl⟩
abbrev main_call3_v28 : Ref sig .tc := ⟨.hbm, 562, rfl⟩
abbrev main_call3_cst : Ref sig .tc := ⟨.hbm, 563, rfl⟩
abbrev main_call3_v29 : Ref sig .tc := ⟨.hbm, 564, rfl⟩
abbrev main_call3_v30 : Ref sig .tc := ⟨.hbm, 565, rfl⟩
abbrev main_call3_v31 : Ref sig .tc := ⟨.hbm, 566, rfl⟩
abbrev main_call3_v32 : Ref sig .tc := ⟨.hbm, 567, rfl⟩
abbrev main_call3_v33 : Ref sig .tc := ⟨.hbm, 568, rfl⟩
abbrev main_call3_v34 : Ref sig .tc := ⟨.hbm, 569, rfl⟩
abbrev main_call3_v35 : Ref sig .tc := ⟨.hbm, 570, rfl⟩
abbrev main_call3_v36 : Ref sig .tc := ⟨.hbm, 571, rfl⟩
abbrev main_v15 : Ref sig .tc := ⟨.hbm, 572, rfl⟩
abbrev main_cst_3 : Ref sig .tc := ⟨.hbm, 573, rfl⟩
abbrev main_v16 : Ref sig .tc := ⟨.hbm, 574, rfl⟩
abbrev main_v17 : Ref sig .tc := ⟨.hbm, 575, rfl⟩
abbrev main_v18 : Ref sig .tc := ⟨.hbm, 576, rfl⟩
abbrev main_v19 : Ref sig .tc := ⟨.hbm, 577, rfl⟩
abbrev main_v20 : Ref sig .tc := ⟨.hbm, 578, rfl⟩
abbrev main_cst_4 : Ref sig .tc := ⟨.hbm, 579, rfl⟩
abbrev main_v21 : Ref sig .tc := ⟨.hbm, 580, rfl⟩
abbrev main_v22 : Ref sig .tc := ⟨.hbm, 581, rfl⟩
abbrev main_cst_5 : Ref sig .tc := ⟨.hbm, 582, rfl⟩
abbrev main_v23 : Ref sig .tc := ⟨.hbm, 583, rfl⟩
abbrev main_v24 : Ref sig .tc := ⟨.hbm, 584, rfl⟩
abbrev main_v25 : Ref sig .tc := ⟨.hbm, 585, rfl⟩
abbrev main_cst_6 : Ref sig .tc := ⟨.hbm, 586, rfl⟩
abbrev main_v26 : Ref sig .tc := ⟨.hbm, 587, rfl⟩
abbrev main_v27 : Ref sig .tc := ⟨.hbm, 588, rfl⟩
abbrev main_v28 : Ref sig .tc := ⟨.hbm, 589, rfl⟩
abbrev main_cst_7 : Ref sig .tc := ⟨.hbm, 590, rfl⟩
abbrev main_cst_8 : Ref sig .tc := ⟨.hbm, 591, rfl⟩
abbrev main_call5_v0 : Ref sig .tc := ⟨.hbm, 592, rfl⟩
abbrev main_call5_v1 : Ref sig .tc := ⟨.hbm, 593, rfl⟩
abbrev main_v29 : Ref sig .tc := ⟨.hbm, 594, rfl⟩
abbrev main_cst_9 : Ref sig .tc := ⟨.hbm, 595, rfl⟩
abbrev main_cst_10 : Ref sig .tc := ⟨.hbm, 596, rfl⟩
abbrev main_call6_v0 : Ref sig .tc := ⟨.hbm, 597, rfl⟩
abbrev main_call6_v1 : Ref sig .tc := ⟨.hbm, 598, rfl⟩
abbrev main_v30 : Ref sig .tc := ⟨.hbm, 599, rfl⟩
abbrev main_v31 : Ref sig .tc := ⟨.hbm, 600, rfl⟩
abbrev main_v32 : Ref sig .tc := ⟨.hbm, 601, rfl⟩
abbrev main_v33 : Ref sig .tc := ⟨.hbm, 602, rfl⟩
abbrev main_v34 : Ref sig .tc := ⟨.hbm, 603, rfl⟩
abbrev main_cst_11 : Ref sig .tc := ⟨.hbm, 604, rfl⟩
abbrev main_cst_12 : Ref sig .tc := ⟨.hbm, 605, rfl⟩
abbrev main_call7_v0 : Ref sig .tc := ⟨.hbm, 606, rfl⟩
abbrev main_call7_v1 : Ref sig .tc := ⟨.hbm, 607, rfl⟩
abbrev main_v35 : Ref sig .tc := ⟨.hbm, 608, rfl⟩
abbrev main_v36 : Ref sig .tc := ⟨.hbm, 609, rfl⟩
abbrev main_v37 : Ref sig .tc := ⟨.hbm, 610, rfl⟩
abbrev main_v38 : Ref sig .tc := ⟨.hbm, 611, rfl⟩
abbrev main_cst_13 : Ref sig .tc := ⟨.hbm, 612, rfl⟩
abbrev main_cst_14 : Ref sig .tc := ⟨.hbm, 613, rfl⟩
abbrev main_call8_v0 : Ref sig .tc := ⟨.hbm, 614, rfl⟩
abbrev main_call8_v1 : Ref sig .tc := ⟨.hbm, 615, rfl⟩
abbrev main_v39 : Ref sig .tc := ⟨.hbm, 616, rfl⟩
abbrev main_v40 : Ref sig .tc := ⟨.hbm, 617, rfl⟩
abbrev main_v41 : Ref sig .tc := ⟨.hbm, 618, rfl⟩
abbrev main_v42 : Ref sig .tc := ⟨.hbm, 619, rfl⟩
abbrev main_cst_15 : Ref sig .tc := ⟨.hbm, 620, rfl⟩
abbrev main_cst_16 : Ref sig .tc := ⟨.hbm, 621, rfl⟩
abbrev main_call9_v0 : Ref sig .tc := ⟨.hbm, 622, rfl⟩
abbrev main_call9_v1 : Ref sig .tc := ⟨.hbm, 623, rfl⟩
abbrev main_v43 : Ref sig .tc := ⟨.hbm, 624, rfl⟩
abbrev main_v44 : Ref sig .tc := ⟨.hbm, 625, rfl⟩
abbrev main_v45 : Ref sig .tc := ⟨.hbm, 626, rfl⟩
abbrev main_v46 : Ref sig .tc := ⟨.hbm, 627, rfl⟩
abbrev main_cst_17 : Ref sig .tc := ⟨.hbm, 628, rfl⟩
abbrev main_cst_18 : Ref sig .tc := ⟨.hbm, 629, rfl⟩
abbrev main_call10_v0 : Ref sig .tc := ⟨.hbm, 630, rfl⟩
abbrev main_call10_v1 : Ref sig .tc := ⟨.hbm, 631, rfl⟩
abbrev main_v47 : Ref sig .tc := ⟨.hbm, 632, rfl⟩
abbrev main_v48 : Ref sig .tc := ⟨.hbm, 633, rfl⟩
abbrev main_v49 : Ref sig .tc := ⟨.hbm, 634, rfl⟩
abbrev main_v50 : Ref sig .tc := ⟨.hbm, 635, rfl⟩
abbrev main_cst_19 : Ref sig .tc := ⟨.hbm, 636, rfl⟩
abbrev main_cst_20 : Ref sig .tc := ⟨.hbm, 637, rfl⟩
abbrev main_call11_v0 : Ref sig .tc := ⟨.hbm, 638, rfl⟩
abbrev main_call11_v1 : Ref sig .tc := ⟨.hbm, 639, rfl⟩
abbrev main_v51 : Ref sig .tc := ⟨.hbm, 640, rfl⟩
abbrev main_v52 : Ref sig .tc := ⟨.hbm, 641, rfl⟩
abbrev main_v53 : Ref sig .tc := ⟨.hbm, 642, rfl⟩
abbrev main_v54 : Ref sig .tc := ⟨.hbm, 643, rfl⟩
abbrev main_cst_21 : Ref sig .tc := ⟨.hbm, 644, rfl⟩
abbrev main_cst_22 : Ref sig .tc := ⟨.hbm, 645, rfl⟩
abbrev main_call12_v0 : Ref sig .tc := ⟨.hbm, 646, rfl⟩
abbrev main_call12_v1 : Ref sig .tc := ⟨.hbm, 647, rfl⟩
abbrev main_v55 : Ref sig .tc := ⟨.hbm, 648, rfl⟩
abbrev main_v56 : Ref sig .tc := ⟨.hbm, 649, rfl⟩
abbrev main_v57 : Ref sig .tc := ⟨.hbm, 650, rfl⟩
abbrev main_v58 : Ref sig .tc := ⟨.hbm, 651, rfl⟩
abbrev main_cst_23 : Ref sig .tc := ⟨.hbm, 652, rfl⟩
abbrev main_cst_24 : Ref sig .tc := ⟨.hbm, 653, rfl⟩
abbrev main_call13_v0 : Ref sig .tc := ⟨.hbm, 654, rfl⟩
abbrev main_call13_v1 : Ref sig .tc := ⟨.hbm, 655, rfl⟩
abbrev main_v59 : Ref sig .tc := ⟨.hbm, 656, rfl⟩
abbrev main_v60 : Ref sig .tc := ⟨.hbm, 657, rfl⟩
abbrev main_v61 : Ref sig .tc := ⟨.hbm, 658, rfl⟩
abbrev main_v62 : Ref sig .tc := ⟨.hbm, 659, rfl⟩
abbrev main_v63 : Ref sig .tc := ⟨.hbm, 660, rfl⟩
abbrev main_cst_25 : Ref sig .tc := ⟨.hbm, 661, rfl⟩
abbrev main_v64 : Ref sig .tc := ⟨.hbm, 662, rfl⟩
abbrev main_v65 : Ref sig .tc := ⟨.hbm, 663, rfl⟩
abbrev main_cst_26 : Ref sig .tc := ⟨.hbm, 664, rfl⟩
abbrev main_v66 : Ref sig .tc := ⟨.hbm, 665, rfl⟩
abbrev main_v67 : Ref sig .tc := ⟨.hbm, 666, rfl⟩
abbrev main_v68 : Ref sig .tc := ⟨.hbm, 667, rfl⟩
abbrev main_v69 : Ref sig .tc := ⟨.hbm, 668, rfl⟩
abbrev main_v70 : Ref sig .tc := ⟨.hbm, 669, rfl⟩
abbrev main_v71 : Ref sig .tc := ⟨.hbm, 670, rfl⟩
abbrev main_v72 : Ref sig .tc := ⟨.hbm, 671, rfl⟩
abbrev main_v73 : Ref sig .tc := ⟨.hbm, 672, rfl⟩
abbrev main_v74 : Ref sig .tc := ⟨.hbm, 673, rfl⟩
abbrev main_v75 : Ref sig .tc := ⟨.hbm, 674, rfl⟩
abbrev main_v76 : Ref sig .tc := ⟨.hbm, 675, rfl⟩
abbrev main_v77 : Ref sig .tc := ⟨.hbm, 676, rfl⟩
abbrev main_call15_c : Ref sig .tc := ⟨.hbm, 677, rfl⟩
abbrev main_call15_v0 : Ref sig .tc := ⟨.hbm, 678, rfl⟩
abbrev main_call15_v1 : Ref sig .tc := ⟨.hbm, 679, rfl⟩
abbrev main_call15_c_0 : Ref sig .tc := ⟨.hbm, 680, rfl⟩
abbrev main_call15_v2 : Ref sig .tc := ⟨.hbm, 681, rfl⟩
abbrev main_call15_v3 : Ref sig .tc := ⟨.hbm, 682, rfl⟩
abbrev main_call15_v4 : Ref sig .tc := ⟨.hbm, 683, rfl⟩
abbrev main_call15_v5 : Ref sig .tc := ⟨.hbm, 684, rfl⟩
abbrev main_call15_c_1 : Ref sig .tc := ⟨.hbm, 685, rfl⟩
abbrev main_call15_c_2 : Ref sig .tc := ⟨.hbm, 686, rfl⟩
abbrev main_call15_v6 : Ref sig .tc := ⟨.hbm, 687, rfl⟩
abbrev main_call15_v7 : Ref sig .tc := ⟨.hbm, 688, rfl⟩
abbrev main_call15_v8 : Ref sig .tc := ⟨.hbm, 689, rfl⟩
abbrev main_call15_v9 : Ref sig .tc := ⟨.hbm, 690, rfl⟩
abbrev main_call15_v10 : Ref sig .tc := ⟨.hbm, 691, rfl⟩
abbrev main_call15_v11 : Ref sig .tc := ⟨.hbm, 692, rfl⟩
abbrev main_call15_c_3 : Ref sig .tc := ⟨.hbm, 693, rfl⟩
abbrev main_call15_v12 : Ref sig .tc := ⟨.hbm, 694, rfl⟩
abbrev main_call15_v13 : Ref sig .tc := ⟨.hbm, 695, rfl⟩
abbrev main_call15_v14 : Ref sig .tc := ⟨.hbm, 696, rfl⟩
abbrev main_call15_cst : Ref sig .tc := ⟨.hbm, 697, rfl⟩
abbrev main_call15_v15 : Ref sig .tc := ⟨.hbm, 698, rfl⟩
abbrev main_v78 : Ref sig .tc := ⟨.hbm, 699, rfl⟩
abbrev main_call16_c : Ref sig .tc := ⟨.hbm, 700, rfl⟩
abbrev main_call16_v0 : Ref sig .tc := ⟨.hbm, 701, rfl⟩
abbrev main_call16_v1 : Ref sig .tc := ⟨.hbm, 702, rfl⟩
abbrev main_call16_c_0 : Ref sig .tc := ⟨.hbm, 703, rfl⟩
abbrev main_call16_v2 : Ref sig .tc := ⟨.hbm, 704, rfl⟩
abbrev main_call16_v3 : Ref sig .tc := ⟨.hbm, 705, rfl⟩
abbrev main_call16_v4 : Ref sig .tc := ⟨.hbm, 706, rfl⟩
abbrev main_call16_v5 : Ref sig .tc := ⟨.hbm, 707, rfl⟩
abbrev main_call16_c_1 : Ref sig .tc := ⟨.hbm, 708, rfl⟩
abbrev main_call16_c_2 : Ref sig .tc := ⟨.hbm, 709, rfl⟩
abbrev main_call16_v6 : Ref sig .tc := ⟨.hbm, 710, rfl⟩
abbrev main_call16_v7 : Ref sig .tc := ⟨.hbm, 711, rfl⟩
abbrev main_call16_v8 : Ref sig .tc := ⟨.hbm, 712, rfl⟩
abbrev main_call16_v9 : Ref sig .tc := ⟨.hbm, 713, rfl⟩
abbrev main_call16_v10 : Ref sig .tc := ⟨.hbm, 714, rfl⟩
abbrev main_call16_v11 : Ref sig .tc := ⟨.hbm, 715, rfl⟩
abbrev main_call16_c_3 : Ref sig .tc := ⟨.hbm, 716, rfl⟩
abbrev main_call16_v12 : Ref sig .tc := ⟨.hbm, 717, rfl⟩
abbrev main_call16_v13 : Ref sig .tc := ⟨.hbm, 718, rfl⟩
abbrev main_call16_v14 : Ref sig .tc := ⟨.hbm, 719, rfl⟩
abbrev main_call16_cst : Ref sig .tc := ⟨.hbm, 720, rfl⟩
abbrev main_call16_v15 : Ref sig .tc := ⟨.hbm, 721, rfl⟩
abbrev main_v79 : Ref sig .tc := ⟨.hbm, 722, rfl⟩
abbrev main_v80 : Ref sig .tc := ⟨.hbm, 723, rfl⟩
abbrev main_cst_27 : Ref sig .tc := ⟨.hbm, 724, rfl⟩
abbrev main_cst_28 : Ref sig .tc := ⟨.hbm, 725, rfl⟩
abbrev main_call17_v0 : Ref sig .tc := ⟨.hbm, 726, rfl⟩
abbrev main_call17_v1 : Ref sig .tc := ⟨.hbm, 727, rfl⟩
abbrev main_call17_v2 : Ref sig .tc := ⟨.hbm, 728, rfl⟩
abbrev main_call17_v3 : Ref sig .tc := ⟨.hbm, 729, rfl⟩
abbrev main_call17_v4 : Ref sig .tc := ⟨.hbm, 730, rfl⟩
abbrev main_call17_v5 : Ref sig .tc := ⟨.hbm, 731, rfl⟩
abbrev main_call17_v6 : Ref sig .tc := ⟨.hbm, 732, rfl⟩
abbrev main_call17_v7 : Ref sig .tc := ⟨.hbm, 733, rfl⟩
abbrev main_call17_v8 : Ref sig .tc := ⟨.hbm, 734, rfl⟩
abbrev main_call17_v9 : Ref sig .tc := ⟨.hbm, 735, rfl⟩
abbrev main_call17_c : Ref sig .tc := ⟨.hbm, 736, rfl⟩
abbrev main_call17_v10 : Ref sig .tc := ⟨.hbm, 737, rfl⟩
abbrev main_call17_v11 : Ref sig .tc := ⟨.hbm, 738, rfl⟩
abbrev main_call17_c_0 : Ref sig .tc := ⟨.hbm, 739, rfl⟩
abbrev main_call17_v12 : Ref sig .tc := ⟨.hbm, 740, rfl⟩
abbrev main_call17_v13 : Ref sig .tc := ⟨.hbm, 741, rfl⟩
abbrev main_call17_c_1 : Ref sig .tc := ⟨.hbm, 742, rfl⟩
abbrev main_call17_v14 : Ref sig .tc := ⟨.hbm, 743, rfl⟩
abbrev main_call17_v15 : Ref sig .tc := ⟨.hbm, 744, rfl⟩
abbrev main_call17_v16 : Ref sig .tc := ⟨.hbm, 745, rfl⟩
abbrev main_call17_v17 : Ref sig .tc := ⟨.hbm, 746, rfl⟩
abbrev main_call17_c_2 : Ref sig .tc := ⟨.hbm, 747, rfl⟩
abbrev main_call17_v18 : Ref sig .tc := ⟨.hbm, 748, rfl⟩
abbrev main_call17_v19 : Ref sig .tc := ⟨.hbm, 749, rfl⟩
abbrev main_call17_v20 : Ref sig .tc := ⟨.hbm, 750, rfl⟩
abbrev main_call17_v21 : Ref sig .tc := ⟨.hbm, 751, rfl⟩
abbrev main_call17_call0_v0 : Ref sig .tc := ⟨.hbm, 752, rfl⟩
abbrev main_call17_call0_c : Ref sig .tc := ⟨.hbm, 753, rfl⟩
abbrev main_call17_call0_v1 : Ref sig .tc := ⟨.hbm, 754, rfl⟩
abbrev main_call17_call0_v2 : Ref sig .tc := ⟨.hbm, 755, rfl⟩
abbrev main_call17_call0_v3 : Ref sig .tc := ⟨.hbm, 756, rfl⟩
abbrev main_call17_call0_v4 : Ref sig .tc := ⟨.hbm, 757, rfl⟩
abbrev main_call17_call0_v5 : Ref sig .tc := ⟨.hbm, 758, rfl⟩
abbrev main_call17_call0_v6 : Ref sig .tc := ⟨.hbm, 759, rfl⟩
abbrev main_call17_call0_c_0 : Ref sig .tc := ⟨.hbm, 760, rfl⟩
abbrev main_call17_call0_v7 : Ref sig .tc := ⟨.hbm, 761, rfl⟩
abbrev main_call17_call0_v8 : Ref sig .tc := ⟨.hbm, 762, rfl⟩
abbrev main_call17_call0_c_1 : Ref sig .tc := ⟨.hbm, 763, rfl⟩
abbrev main_call17_call0_v9 : Ref sig .tc := ⟨.hbm, 764, rfl⟩
abbrev main_call17_call0_v10 : Ref sig .tc := ⟨.hbm, 765, rfl⟩
abbrev main_call17_call0_v11 : Ref sig .tc := ⟨.hbm, 766, rfl⟩
abbrev main_call17_call0_v12 : Ref sig .tc := ⟨.hbm, 767, rfl⟩
abbrev main_call17_call0_v13 : Ref sig .tc := ⟨.hbm, 768, rfl⟩
abbrev main_call17_call0_c_2 : Ref sig .tc := ⟨.hbm, 769, rfl⟩
abbrev main_call17_call0_v14 : Ref sig .tc := ⟨.hbm, 770, rfl⟩
abbrev main_call17_call0_v15 : Ref sig .tc := ⟨.hbm, 771, rfl⟩
abbrev main_call17_call0_c_3 : Ref sig .tc := ⟨.hbm, 772, rfl⟩
abbrev main_call17_call0_v16 : Ref sig .tc := ⟨.hbm, 773, rfl⟩
abbrev main_call17_call0_v17 : Ref sig .tc := ⟨.hbm, 774, rfl⟩
abbrev main_call17_call0_v18 : Ref sig .tc := ⟨.hbm, 775, rfl⟩
abbrev main_call17_call0_v19 : Ref sig .tc := ⟨.hbm, 776, rfl⟩
abbrev main_call17_call0_v20 : Ref sig .tc := ⟨.hbm, 777, rfl⟩
abbrev main_call17_call0_c_4 : Ref sig .tc := ⟨.hbm, 778, rfl⟩
abbrev main_call17_call0_v21 : Ref sig .tc := ⟨.hbm, 779, rfl⟩
abbrev main_call17_call0_v22 : Ref sig .tc := ⟨.hbm, 780, rfl⟩
abbrev main_call17_call0_c_5 : Ref sig .tc := ⟨.hbm, 781, rfl⟩
abbrev main_call17_call0_v23 : Ref sig .tc := ⟨.hbm, 782, rfl⟩
abbrev main_call17_call0_v24 : Ref sig .tc := ⟨.hbm, 783, rfl⟩
abbrev main_call17_call0_v25 : Ref sig .tc := ⟨.hbm, 784, rfl⟩
abbrev main_call17_call0_v26 : Ref sig .tc := ⟨.hbm, 785, rfl⟩
abbrev main_call17_call0_v27 : Ref sig .tc := ⟨.hbm, 786, rfl⟩
abbrev main_call17_call0_c_6 : Ref sig .tc := ⟨.hbm, 787, rfl⟩
abbrev main_call17_call0_v28 : Ref sig .tc := ⟨.hbm, 788, rfl⟩
abbrev main_call17_call0_v29 : Ref sig .tc := ⟨.hbm, 789, rfl⟩
abbrev main_call17_call0_c_7 : Ref sig .tc := ⟨.hbm, 790, rfl⟩
abbrev main_call17_call0_v30 : Ref sig .tc := ⟨.hbm, 791, rfl⟩
abbrev main_call17_call0_v31 : Ref sig .tc := ⟨.hbm, 792, rfl⟩
abbrev main_call17_call0_v32 : Ref sig .tc := ⟨.hbm, 793, rfl⟩
abbrev main_call17_call0_v33 : Ref sig .tc := ⟨.hbm, 794, rfl⟩
abbrev main_call17_call0_v34 : Ref sig .tc := ⟨.hbm, 795, rfl⟩
abbrev main_call17_call0_v35 : Ref sig .tc := ⟨.hbm, 796, rfl⟩
abbrev main_call17_call0_v36 : Ref sig .tc := ⟨.hbm, 797, rfl⟩
abbrev main_call17_call0_v37 : Ref sig .tc := ⟨.hbm, 798, rfl⟩
abbrev main_call17_call0_c_8 : Ref sig .tc := ⟨.hbm, 799, rfl⟩
abbrev main_call17_call0_v38 : Ref sig .tc := ⟨.hbm, 800, rfl⟩
abbrev main_call17_call0_v39 : Ref sig .tc := ⟨.hbm, 801, rfl⟩
abbrev main_call17_call0_v40 : Ref sig .tc := ⟨.hbm, 802, rfl⟩
abbrev main_call17_call0_c_9 : Ref sig .tc := ⟨.hbm, 803, rfl⟩
abbrev main_call17_call0_v41 : Ref sig .tc := ⟨.hbm, 804, rfl⟩
abbrev main_call17_call0_v42 : Ref sig .tc := ⟨.hbm, 805, rfl⟩
abbrev main_call17_call0_c_10 : Ref sig .tc := ⟨.hbm, 806, rfl⟩
abbrev main_call17_call0_v43 : Ref sig .tc := ⟨.hbm, 807, rfl⟩
abbrev main_call17_call0_v44 : Ref sig .tc := ⟨.hbm, 808, rfl⟩
abbrev main_call17_call0_v45 : Ref sig .tc := ⟨.hbm, 809, rfl⟩
abbrev main_call17_call0_v46 : Ref sig .tc := ⟨.hbm, 810, rfl⟩
abbrev main_call17_call0_v47 : Ref sig .tc := ⟨.hbm, 811, rfl⟩
abbrev main_call17_call0_c_11 : Ref sig .tc := ⟨.hbm, 812, rfl⟩
abbrev main_call17_call0_v48 : Ref sig .tc := ⟨.hbm, 813, rfl⟩
abbrev main_call17_call0_v49 : Ref sig .tc := ⟨.hbm, 814, rfl⟩
abbrev main_call17_call0_c_12 : Ref sig .tc := ⟨.hbm, 815, rfl⟩
abbrev main_call17_call0_v50 : Ref sig .tc := ⟨.hbm, 816, rfl⟩
abbrev main_call17_call0_v51 : Ref sig .tc := ⟨.hbm, 817, rfl⟩
abbrev main_call17_call0_v52 : Ref sig .tc := ⟨.hbm, 818, rfl⟩
abbrev main_call17_call0_v53 : Ref sig .tc := ⟨.hbm, 819, rfl⟩
abbrev main_call17_call0_v54 : Ref sig .tc := ⟨.hbm, 820, rfl⟩
abbrev main_call17_call0_c_13 : Ref sig .tc := ⟨.hbm, 821, rfl⟩
abbrev main_call17_call0_v55 : Ref sig .tc := ⟨.hbm, 822, rfl⟩
abbrev main_call17_call0_v56 : Ref sig .tc := ⟨.hbm, 823, rfl⟩
abbrev main_call17_call0_c_14 : Ref sig .tc := ⟨.hbm, 824, rfl⟩
abbrev main_call17_call0_v57 : Ref sig .tc := ⟨.hbm, 825, rfl⟩
abbrev main_call17_call0_v58 : Ref sig .tc := ⟨.hbm, 826, rfl⟩
abbrev main_call17_call0_v59 : Ref sig .tc := ⟨.hbm, 827, rfl⟩
abbrev main_call17_call0_v60 : Ref sig .tc := ⟨.hbm, 828, rfl⟩
abbrev main_call17_call0_v61 : Ref sig .tc := ⟨.hbm, 829, rfl⟩
abbrev main_call17_call0_c_15 : Ref sig .tc := ⟨.hbm, 830, rfl⟩
abbrev main_call17_call0_v62 : Ref sig .tc := ⟨.hbm, 831, rfl⟩
abbrev main_call17_call0_v63 : Ref sig .tc := ⟨.hbm, 832, rfl⟩
abbrev main_call17_call0_c_16 : Ref sig .tc := ⟨.hbm, 833, rfl⟩
abbrev main_call17_call0_v64 : Ref sig .tc := ⟨.hbm, 834, rfl⟩
abbrev main_call17_call0_v65 : Ref sig .tc := ⟨.hbm, 835, rfl⟩
abbrev main_call17_call0_v66 : Ref sig .tc := ⟨.hbm, 836, rfl⟩
abbrev main_call17_call0_v67 : Ref sig .tc := ⟨.hbm, 837, rfl⟩
abbrev main_call17_call0_v68 : Ref sig .tc := ⟨.hbm, 838, rfl⟩
abbrev main_call17_call0_v69 : Ref sig .tc := ⟨.hbm, 839, rfl⟩
abbrev main_call17_call0_v70 : Ref sig .tc := ⟨.hbm, 840, rfl⟩
abbrev main_call17_call0_v71 : Ref sig .tc := ⟨.hbm, 841, rfl⟩
abbrev main_call17_call0_c_17 : Ref sig .tc := ⟨.hbm, 842, rfl⟩
abbrev main_call17_call0_v72 : Ref sig .tc := ⟨.hbm, 843, rfl⟩
abbrev main_call17_call0_v73 : Ref sig .tc := ⟨.hbm, 844, rfl⟩
abbrev main_call17_call0_v74 : Ref sig .tc := ⟨.hbm, 845, rfl⟩
abbrev main_call17_call0_c_18 : Ref sig .tc := ⟨.hbm, 846, rfl⟩
abbrev main_call17_call0_v75 : Ref sig .tc := ⟨.hbm, 847, rfl⟩
abbrev main_call17_call0_v76 : Ref sig .tc := ⟨.hbm, 848, rfl⟩
abbrev main_call17_call0_c_19 : Ref sig .tc := ⟨.hbm, 849, rfl⟩
abbrev main_call17_call0_v77 : Ref sig .tc := ⟨.hbm, 850, rfl⟩
abbrev main_call17_call0_v78 : Ref sig .tc := ⟨.hbm, 851, rfl⟩
abbrev main_call17_call0_v79 : Ref sig .tc := ⟨.hbm, 852, rfl⟩
abbrev main_call17_call0_v80 : Ref sig .tc := ⟨.hbm, 853, rfl⟩
abbrev main_call17_call0_v81 : Ref sig .tc := ⟨.hbm, 854, rfl⟩
abbrev main_call17_call0_c_20 : Ref sig .tc := ⟨.hbm, 855, rfl⟩
abbrev main_call17_call0_v82 : Ref sig .tc := ⟨.hbm, 856, rfl⟩
abbrev main_call17_call0_v83 : Ref sig .tc := ⟨.hbm, 857, rfl⟩
abbrev main_call17_call0_c_21 : Ref sig .tc := ⟨.hbm, 858, rfl⟩
abbrev main_call17_call0_v84 : Ref sig .tc := ⟨.hbm, 859, rfl⟩
abbrev main_call17_call0_v85 : Ref sig .tc := ⟨.hbm, 860, rfl⟩
abbrev main_call17_call0_v86 : Ref sig .tc := ⟨.hbm, 861, rfl⟩
abbrev main_call17_call0_v87 : Ref sig .tc := ⟨.hbm, 862, rfl⟩
abbrev main_call17_call0_v88 : Ref sig .tc := ⟨.hbm, 863, rfl⟩
abbrev main_call17_call0_c_22 : Ref sig .tc := ⟨.hbm, 864, rfl⟩
abbrev main_call17_call0_v89 : Ref sig .tc := ⟨.hbm, 865, rfl⟩
abbrev main_call17_call0_v90 : Ref sig .tc := ⟨.hbm, 866, rfl⟩
abbrev main_call17_call0_c_23 : Ref sig .tc := ⟨.hbm, 867, rfl⟩
abbrev main_call17_call0_v91 : Ref sig .tc := ⟨.hbm, 868, rfl⟩
abbrev main_call17_call0_v92 : Ref sig .tc := ⟨.hbm, 869, rfl⟩
abbrev main_call17_call0_v93 : Ref sig .tc := ⟨.hbm, 870, rfl⟩
abbrev main_call17_call0_v94 : Ref sig .tc := ⟨.hbm, 871, rfl⟩
abbrev main_call17_call0_v95 : Ref sig .tc := ⟨.hbm, 872, rfl⟩
abbrev main_call17_call0_c_24 : Ref sig .tc := ⟨.hbm, 873, rfl⟩
abbrev main_call17_call0_v96 : Ref sig .tc := ⟨.hbm, 874, rfl⟩
abbrev main_call17_call0_v97 : Ref sig .tc := ⟨.hbm, 875, rfl⟩
abbrev main_call17_call0_c_25 : Ref sig .tc := ⟨.hbm, 876, rfl⟩
abbrev main_call17_call0_v98 : Ref sig .tc := ⟨.hbm, 877, rfl⟩
abbrev main_call17_call0_v99 : Ref sig .tc := ⟨.hbm, 878, rfl⟩
abbrev main_call17_call0_v100 : Ref sig .tc := ⟨.hbm, 879, rfl⟩
abbrev main_call17_call0_v101 : Ref sig .tc := ⟨.hbm, 880, rfl⟩
abbrev main_call17_call0_v102 : Ref sig .tc := ⟨.hbm, 881, rfl⟩
abbrev main_call17_call0_v103 : Ref sig .tc := ⟨.hbm, 882, rfl⟩
abbrev main_call17_call0_v104 : Ref sig .tc := ⟨.hbm, 883, rfl⟩
abbrev main_call17_call0_v105 : Ref sig .tc := ⟨.hbm, 884, rfl⟩
abbrev main_call17_call0_c_26 : Ref sig .tc := ⟨.hbm, 885, rfl⟩
abbrev main_call17_call0_v106 : Ref sig .tc := ⟨.hbm, 886, rfl⟩
abbrev main_call17_call0_v107 : Ref sig .tc := ⟨.hbm, 887, rfl⟩
abbrev main_call17_call0_v108 : Ref sig .tc := ⟨.hbm, 888, rfl⟩
abbrev main_call17_call0_c_27 : Ref sig .tc := ⟨.hbm, 889, rfl⟩
abbrev main_call17_call0_v109 : Ref sig .tc := ⟨.hbm, 890, rfl⟩
abbrev main_call17_call0_v110 : Ref sig .tc := ⟨.hbm, 891, rfl⟩
abbrev main_call17_call0_c_28 : Ref sig .tc := ⟨.hbm, 892, rfl⟩
abbrev main_call17_call0_v111 : Ref sig .tc := ⟨.hbm, 893, rfl⟩
abbrev main_call17_call0_v112 : Ref sig .tc := ⟨.hbm, 894, rfl⟩
abbrev main_call17_call0_v113 : Ref sig .tc := ⟨.hbm, 895, rfl⟩
abbrev main_call17_call0_v114 : Ref sig .tc := ⟨.hbm, 896, rfl⟩
abbrev main_call17_call0_v115 : Ref sig .tc := ⟨.hbm, 897, rfl⟩
abbrev main_call17_call0_c_29 : Ref sig .tc := ⟨.hbm, 898, rfl⟩
abbrev main_call17_call0_v116 : Ref sig .tc := ⟨.hbm, 899, rfl⟩
abbrev main_call17_call0_v117 : Ref sig .tc := ⟨.hbm, 900, rfl⟩
abbrev main_call17_call0_c_30 : Ref sig .tc := ⟨.hbm, 901, rfl⟩
abbrev main_call17_call0_v118 : Ref sig .tc := ⟨.hbm, 902, rfl⟩
abbrev main_call17_call0_v119 : Ref sig .tc := ⟨.hbm, 903, rfl⟩
abbrev main_call17_call0_v120 : Ref sig .tc := ⟨.hbm, 904, rfl⟩
abbrev main_call17_call0_v121 : Ref sig .tc := ⟨.hbm, 905, rfl⟩
abbrev main_call17_call0_v122 : Ref sig .tc := ⟨.hbm, 906, rfl⟩
abbrev main_call17_call0_c_31 : Ref sig .tc := ⟨.hbm, 907, rfl⟩
abbrev main_call17_call0_v123 : Ref sig .tc := ⟨.hbm, 908, rfl⟩
abbrev main_call17_call0_v124 : Ref sig .tc := ⟨.hbm, 909, rfl⟩
abbrev main_call17_call0_c_32 : Ref sig .tc := ⟨.hbm, 910, rfl⟩
abbrev main_call17_call0_v125 : Ref sig .tc := ⟨.hbm, 911, rfl⟩
abbrev main_call17_call0_v126 : Ref sig .tc := ⟨.hbm, 912, rfl⟩
abbrev main_call17_call0_v127 : Ref sig .tc := ⟨.hbm, 913, rfl⟩
abbrev main_call17_call0_v128 : Ref sig .tc := ⟨.hbm, 914, rfl⟩
abbrev main_call17_call0_v129 : Ref sig .tc := ⟨.hbm, 915, rfl⟩
abbrev main_call17_call0_c_33 : Ref sig .tc := ⟨.hbm, 916, rfl⟩
abbrev main_call17_call0_v130 : Ref sig .tc := ⟨.hbm, 917, rfl⟩
abbrev main_call17_call0_v131 : Ref sig .tc := ⟨.hbm, 918, rfl⟩
abbrev main_call17_call0_c_34 : Ref sig .tc := ⟨.hbm, 919, rfl⟩
abbrev main_call17_call0_v132 : Ref sig .tc := ⟨.hbm, 920, rfl⟩
abbrev main_call17_call0_v133 : Ref sig .tc := ⟨.hbm, 921, rfl⟩
abbrev main_call17_call0_v134 : Ref sig .tc := ⟨.hbm, 922, rfl⟩
abbrev main_call17_call0_v135 : Ref sig .tc := ⟨.hbm, 923, rfl⟩
abbrev main_call17_call0_v136 : Ref sig .tc := ⟨.hbm, 924, rfl⟩
abbrev main_call17_call0_v137 : Ref sig .tc := ⟨.hbm, 925, rfl⟩
abbrev main_call17_call0_v138 : Ref sig .tc := ⟨.hbm, 926, rfl⟩
abbrev main_call17_call0_v139 : Ref sig .tc := ⟨.hbm, 927, rfl⟩
abbrev main_call17_call0_c_35 : Ref sig .tc := ⟨.hbm, 928, rfl⟩
abbrev main_call17_call0_v140 : Ref sig .tc := ⟨.hbm, 929, rfl⟩
abbrev main_call17_call0_v141 : Ref sig .tc := ⟨.hbm, 930, rfl⟩
abbrev main_call17_call0_v142 : Ref sig .tc := ⟨.hbm, 931, rfl⟩
abbrev main_call17_call0_c_36 : Ref sig .tc := ⟨.hbm, 932, rfl⟩
abbrev main_call17_call0_v143 : Ref sig .tc := ⟨.hbm, 933, rfl⟩
abbrev main_call17_call0_v144 : Ref sig .tc := ⟨.hbm, 934, rfl⟩
abbrev main_call17_call0_c_37 : Ref sig .tc := ⟨.hbm, 935, rfl⟩
abbrev main_call17_call0_v145 : Ref sig .tc := ⟨.hbm, 936, rfl⟩
abbrev main_call17_call0_v146 : Ref sig .tc := ⟨.hbm, 937, rfl⟩
abbrev main_call17_call0_v147 : Ref sig .tc := ⟨.hbm, 938, rfl⟩
abbrev main_call17_call0_v148 : Ref sig .tc := ⟨.hbm, 939, rfl⟩
abbrev main_call17_call0_v149 : Ref sig .tc := ⟨.hbm, 940, rfl⟩
abbrev main_call17_call0_c_38 : Ref sig .tc := ⟨.hbm, 941, rfl⟩
abbrev main_call17_call0_v150 : Ref sig .tc := ⟨.hbm, 942, rfl⟩
abbrev main_call17_call0_v151 : Ref sig .tc := ⟨.hbm, 943, rfl⟩
abbrev main_call17_call0_c_39 : Ref sig .tc := ⟨.hbm, 944, rfl⟩
abbrev main_call17_call0_v152 : Ref sig .tc := ⟨.hbm, 945, rfl⟩
abbrev main_call17_call0_v153 : Ref sig .tc := ⟨.hbm, 946, rfl⟩
abbrev main_call17_call0_v154 : Ref sig .tc := ⟨.hbm, 947, rfl⟩
abbrev main_call17_call0_v155 : Ref sig .tc := ⟨.hbm, 948, rfl⟩
abbrev main_call17_call0_v156 : Ref sig .tc := ⟨.hbm, 949, rfl⟩
abbrev main_call17_call0_c_40 : Ref sig .tc := ⟨.hbm, 950, rfl⟩
abbrev main_call17_call0_v157 : Ref sig .tc := ⟨.hbm, 951, rfl⟩
abbrev main_call17_call0_v158 : Ref sig .tc := ⟨.hbm, 952, rfl⟩
abbrev main_call17_call0_c_41 : Ref sig .tc := ⟨.hbm, 953, rfl⟩
abbrev main_call17_call0_v159 : Ref sig .tc := ⟨.hbm, 954, rfl⟩
abbrev main_call17_call0_v160 : Ref sig .tc := ⟨.hbm, 955, rfl⟩
abbrev main_call17_call0_v161 : Ref sig .tc := ⟨.hbm, 956, rfl⟩
abbrev main_call17_call0_v162 : Ref sig .tc := ⟨.hbm, 957, rfl⟩
abbrev main_call17_call0_v163 : Ref sig .tc := ⟨.hbm, 958, rfl⟩
abbrev main_call17_call0_c_42 : Ref sig .tc := ⟨.hbm, 959, rfl⟩
abbrev main_call17_call0_v164 : Ref sig .tc := ⟨.hbm, 960, rfl⟩
abbrev main_call17_call0_v165 : Ref sig .tc := ⟨.hbm, 961, rfl⟩
abbrev main_call17_call0_c_43 : Ref sig .tc := ⟨.hbm, 962, rfl⟩
abbrev main_call17_call0_v166 : Ref sig .tc := ⟨.hbm, 963, rfl⟩
abbrev main_call17_call0_v167 : Ref sig .tc := ⟨.hbm, 964, rfl⟩
abbrev main_call17_call0_v168 : Ref sig .tc := ⟨.hbm, 965, rfl⟩
abbrev main_call17_call0_v169 : Ref sig .tc := ⟨.hbm, 966, rfl⟩
abbrev main_call17_call0_v170 : Ref sig .tc := ⟨.hbm, 967, rfl⟩
abbrev main_call17_v22_0 : Ref sig .tc := ⟨.hbm, 968, rfl⟩
abbrev main_call17_call0_v172 : Ref sig .tc := ⟨.hbm, 969, rfl⟩
abbrev main_call17_call0_v173 : Ref sig .tc := ⟨.hbm, 970, rfl⟩
abbrev main_call17_call0_c_44 : Ref sig .tc := ⟨.hbm, 971, rfl⟩
abbrev main_call17_call0_v174 : Ref sig .tc := ⟨.hbm, 972, rfl⟩
abbrev main_call17_v22_1 : Ref sig .tc := ⟨.hbm, 973, rfl⟩
abbrev main_call17_v23 : Ref sig .tc := ⟨.hbm, 974, rfl⟩
abbrev main_call17_c_3 : Ref sig .tc := ⟨.hbm, 975, rfl⟩
abbrev main_call17_v24 : Ref sig .tc := ⟨.hbm, 976, rfl⟩
abbrev main_call17_v25 : Ref sig .tc := ⟨.hbm, 977, rfl⟩
abbrev main_call17_c_4 : Ref sig .tc := ⟨.hbm, 978, rfl⟩
abbrev main_call17_v26 : Ref sig .tc := ⟨.hbm, 979, rfl⟩
abbrev main_call17_v27 : Ref sig .tc := ⟨.hbm, 980, rfl⟩
abbrev main_call17_v28 : Ref sig .tc := ⟨.hbm, 981, rfl⟩
abbrev main_call17_cst : Ref sig .tc := ⟨.hbm, 982, rfl⟩
abbrev main_call17_v29 : Ref sig .tc := ⟨.hbm, 983, rfl⟩
abbrev main_call17_v30 : Ref sig .tc := ⟨.hbm, 984, rfl⟩
abbrev main_call17_v31 : Ref sig .tc := ⟨.hbm, 985, rfl⟩
abbrev main_call17_v32 : Ref sig .tc := ⟨.hbm, 986, rfl⟩
abbrev main_call17_v33 : Ref sig .tc := ⟨.hbm, 987, rfl⟩
abbrev main_call17_v34 : Ref sig .tc := ⟨.hbm, 988, rfl⟩
abbrev main_call17_v35 : Ref sig .tc := ⟨.hbm, 989, rfl⟩
abbrev main_call17_v36 : Ref sig .tc := ⟨.hbm, 990, rfl⟩
abbrev main_v81 : Ref sig .tc := ⟨.hbm, 991, rfl⟩
abbrev main_cst_29 : Ref sig .tc := ⟨.hbm, 992, rfl⟩
abbrev main_v82 : Ref sig .tc := ⟨.hbm, 993, rfl⟩
abbrev main_v83 : Ref sig .tc := ⟨.hbm, 994, rfl⟩
abbrev main_v84 : Ref sig .tc := ⟨.hbm, 995, rfl⟩
abbrev main_v85 : Ref sig .tc := ⟨.hbm, 996, rfl⟩
abbrev main_v86 : Ref sig .tc := ⟨.hbm, 997, rfl⟩
abbrev main_cst_30 : Ref sig .tc := ⟨.hbm, 998, rfl⟩
abbrev main_v87 : Ref sig .tc := ⟨.hbm, 999, rfl⟩
abbrev main_v88 : Ref sig .tc := ⟨.hbm, 1000, rfl⟩
abbrev main_cst_31 : Ref sig .tc := ⟨.hbm, 1001, rfl⟩
abbrev main_v89 : Ref sig .tc := ⟨.hbm, 1002, rfl⟩
abbrev main_v90 : Ref sig .tc := ⟨.hbm, 1003, rfl⟩
abbrev main_v91 : Ref sig .tc := ⟨.hbm, 1004, rfl⟩
abbrev main_cst_32 : Ref sig .tc := ⟨.hbm, 1005, rfl⟩
abbrev main_v92 : Ref sig .tc := ⟨.hbm, 1006, rfl⟩
abbrev main_v93 : Ref sig .tc := ⟨.hbm, 1007, rfl⟩
abbrev main_v94 : Ref sig .tc := ⟨.hbm, 1008, rfl⟩
abbrev main_cst_33 : Ref sig .tc := ⟨.hbm, 1009, rfl⟩
abbrev main_cst_34 : Ref sig .tc := ⟨.hbm, 1010, rfl⟩
abbrev main_call19_v0 : Ref sig .tc := ⟨.hbm, 1011, rfl⟩
abbrev main_call19_v1 : Ref sig .tc := ⟨.hbm, 1012, rfl⟩
abbrev main_v95 : Ref sig .tc := ⟨.hbm, 1013, rfl⟩
abbrev main_cst_35 : Ref sig .tc := ⟨.hbm, 1014, rfl⟩
abbrev main_cst_36 : Ref sig .tc := ⟨.hbm, 1015, rfl⟩
abbrev main_call20_v0 : Ref sig .tc := ⟨.hbm, 1016, rfl⟩
abbrev main_call20_v1 : Ref sig .tc := ⟨.hbm, 1017, rfl⟩
abbrev main_v96 : Ref sig .tc := ⟨.hbm, 1018, rfl⟩
abbrev main_v97 : Ref sig .tc := ⟨.hbm, 1019, rfl⟩
abbrev main_v98 : Ref sig .tc := ⟨.hbm, 1020, rfl⟩
abbrev main_v99 : Ref sig .tc := ⟨.hbm, 1021, rfl⟩
abbrev main_v100 : Ref sig .tc := ⟨.hbm, 1022, rfl⟩
abbrev main_cst_37 : Ref sig .tc := ⟨.hbm, 1023, rfl⟩
abbrev main_cst_38 : Ref sig .tc := ⟨.hbm, 1024, rfl⟩
abbrev main_call21_v0 : Ref sig .tc := ⟨.hbm, 1025, rfl⟩
abbrev main_call21_v1 : Ref sig .tc := ⟨.hbm, 1026, rfl⟩
abbrev main_v101 : Ref sig .tc := ⟨.hbm, 1027, rfl⟩
abbrev main_v102 : Ref sig .tc := ⟨.hbm, 1028, rfl⟩
abbrev main_v103 : Ref sig .tc := ⟨.hbm, 1029, rfl⟩
abbrev main_v104 : Ref sig .tc := ⟨.hbm, 1030, rfl⟩
abbrev main_cst_39 : Ref sig .tc := ⟨.hbm, 1031, rfl⟩
abbrev main_cst_40 : Ref sig .tc := ⟨.hbm, 1032, rfl⟩
abbrev main_call22_v0 : Ref sig .tc := ⟨.hbm, 1033, rfl⟩
abbrev main_call22_v1 : Ref sig .tc := ⟨.hbm, 1034, rfl⟩
abbrev main_v105 : Ref sig .tc := ⟨.hbm, 1035, rfl⟩
abbrev main_v106 : Ref sig .tc := ⟨.hbm, 1036, rfl⟩
abbrev main_v107 : Ref sig .tc := ⟨.hbm, 1037, rfl⟩
abbrev main_v108 : Ref sig .tc := ⟨.hbm, 1038, rfl⟩
abbrev main_cst_41 : Ref sig .tc := ⟨.hbm, 1039, rfl⟩
abbrev main_cst_42 : Ref sig .tc := ⟨.hbm, 1040, rfl⟩
abbrev main_call23_v0 : Ref sig .tc := ⟨.hbm, 1041, rfl⟩
abbrev main_call23_v1 : Ref sig .tc := ⟨.hbm, 1042, rfl⟩
abbrev main_v109 : Ref sig .tc := ⟨.hbm, 1043, rfl⟩
abbrev main_v110 : Ref sig .tc := ⟨.hbm, 1044, rfl⟩
abbrev main_v111 : Ref sig .tc := ⟨.hbm, 1045, rfl⟩
abbrev main_v112 : Ref sig .tc := ⟨.hbm, 1046, rfl⟩
abbrev main_cst_43 : Ref sig .tc := ⟨.hbm, 1047, rfl⟩
abbrev main_cst_44 : Ref sig .tc := ⟨.hbm, 1048, rfl⟩
abbrev main_call24_v0 : Ref sig .tc := ⟨.hbm, 1049, rfl⟩
abbrev main_call24_v1 : Ref sig .tc := ⟨.hbm, 1050, rfl⟩
abbrev main_v113 : Ref sig .tc := ⟨.hbm, 1051, rfl⟩
abbrev main_v114 : Ref sig .tc := ⟨.hbm, 1052, rfl⟩
abbrev main_v115 : Ref sig .tc := ⟨.hbm, 1053, rfl⟩
abbrev main_v116 : Ref sig .tc := ⟨.hbm, 1054, rfl⟩
abbrev main_cst_45 : Ref sig .tc := ⟨.hbm, 1055, rfl⟩
abbrev main_cst_46 : Ref sig .tc := ⟨.hbm, 1056, rfl⟩
abbrev main_call25_v0 : Ref sig .tc := ⟨.hbm, 1057, rfl⟩
abbrev main_call25_v1 : Ref sig .tc := ⟨.hbm, 1058, rfl⟩
abbrev main_v117 : Ref sig .tc := ⟨.hbm, 1059, rfl⟩
abbrev main_v118 : Ref sig .tc := ⟨.hbm, 1060, rfl⟩
abbrev main_v119 : Ref sig .tc := ⟨.hbm, 1061, rfl⟩
abbrev main_v120 : Ref sig .tc := ⟨.hbm, 1062, rfl⟩
abbrev main_cst_47 : Ref sig .tc := ⟨.hbm, 1063, rfl⟩
abbrev main_cst_48 : Ref sig .tc := ⟨.hbm, 1064, rfl⟩
abbrev main_call26_v0 : Ref sig .tc := ⟨.hbm, 1065, rfl⟩
abbrev main_call26_v1 : Ref sig .tc := ⟨.hbm, 1066, rfl⟩
abbrev main_v121 : Ref sig .tc := ⟨.hbm, 1067, rfl⟩
abbrev main_v122 : Ref sig .tc := ⟨.hbm, 1068, rfl⟩
abbrev main_v123 : Ref sig .tc := ⟨.hbm, 1069, rfl⟩
abbrev main_v124 : Ref sig .tc := ⟨.hbm, 1070, rfl⟩
abbrev main_cst_49 : Ref sig .tc := ⟨.hbm, 1071, rfl⟩
abbrev main_cst_50 : Ref sig .tc := ⟨.hbm, 1072, rfl⟩
abbrev main_call27_v0 : Ref sig .tc := ⟨.hbm, 1073, rfl⟩
abbrev main_call27_v1 : Ref sig .tc := ⟨.hbm, 1074, rfl⟩
abbrev main_v125 : Ref sig .tc := ⟨.hbm, 1075, rfl⟩
abbrev main_v126 : Ref sig .tc := ⟨.hbm, 1076, rfl⟩
abbrev main_v127 : Ref sig .tc := ⟨.hbm, 1077, rfl⟩
abbrev main_v128 : Ref sig .tc := ⟨.hbm, 1078, rfl⟩
abbrev main_v129 : Ref sig .tc := ⟨.hbm, 1079, rfl⟩
abbrev main_cst_51 : Ref sig .tc := ⟨.hbm, 1080, rfl⟩
abbrev main_v130 : Ref sig .tc := ⟨.hbm, 1081, rfl⟩
abbrev main_v131 : Ref sig .tc := ⟨.hbm, 1082, rfl⟩
abbrev main_cst_52 : Ref sig .tc := ⟨.hbm, 1083, rfl⟩
abbrev main_v132 : Ref sig .tc := ⟨.hbm, 1084, rfl⟩
abbrev main_v133 : Ref sig .tc := ⟨.hbm, 1085, rfl⟩
abbrev main_v134 : Ref sig .tc := ⟨.hbm, 1086, rfl⟩
abbrev main_v135 : Ref sig .tc := ⟨.hbm, 1087, rfl⟩
abbrev main_v136 : Ref sig .tc := ⟨.hbm, 1088, rfl⟩
abbrev main_v137 : Ref sig .tc := ⟨.hbm, 1089, rfl⟩
abbrev main_v138 : Ref sig .tc := ⟨.hbm, 1090, rfl⟩
abbrev main_v139 : Ref sig .tc := ⟨.hbm, 1091, rfl⟩
abbrev main_v140 : Ref sig .tc := ⟨.hbm, 1092, rfl⟩
abbrev main_v141 : Ref sig .tc := ⟨.hbm, 1093, rfl⟩
abbrev main_v142 : Ref sig .tc := ⟨.hbm, 1094, rfl⟩
abbrev main_v143 : Ref sig .tc := ⟨.hbm, 1095, rfl⟩

abbrev nD : Nat := 1
abbrev τ : Topo := Topo.v7x

variable {F : FTy → Type} [FloatOps F]
-- ==== Proof.Line.lean ====
/- Straight lines of host operations, read through their equations.

   A line whose operations each write a buffer of their own, numbered above every buffer it reads, leaves contents that
   SOLVE it: at the end each operation's result is what its function makes of the final contents of its operands. So a
   value is read off one operation at a time, and a value used many times is never copied. -/
module

public import Idealize.ShloMosaic.Lib.StableHlo.RunHlo

@[expose] public section

noncomputable section

namespace Cert.Proof

open Idealize.ShloMosaic Idealize.ShloMosaic.StableHlo Idealize.SL.Sem

variable {nD : Nat} {τ : Topo} {sig : RefSig} {Val : EltTy → Type} {Λ : Labels}

/-- The buffer an operation writes and the buffers its result depends on. -/
structure Touch (sig : RefSig) where
  /-- The buffer written. -/
  out : Ref sig .tc
  /-- The buffers read. -/
  ins : List (Ref sig .tc)

/-- `op` writes `t.out` alone, and what it leaves there depends on `t.ins` alone. -/
class Desc (op : HloOp τ sig Val) (t : outParam (Touch sig)) : Prop where
  /-- The one buffer written. -/
  writes : op.writes = {Proc.devRef .tc t.out}
  /-- Its contents are determined. -/
  fresh : op.fresh = ∅
  /-- Only the TensorCore's buffers are touched. -/
  bufs : op.bufs ⊆ tcRefs τ sig
  /-- The result depends on the operands. -/
  reads : ∀ V W : Valuation τ sig Val, (∀ r ∈ t.ins, V (Proc.devRef .tc r) = W (Proc.devRef .tc r)) →
    op.result V (Proc.devRef .tc t.out) = op.result W (Proc.devRef .tc t.out)

instance desc_nullary (y : Ref sig .tc) (v : y.ty.Contents Val) (hy) :
    Desc (nullary (τ := τ) y v hy) ⟨y, []⟩ :=
  ⟨rfl, rfl, nullary_bufs_sub .., fun V W _ => by rw [nullary_result, nullary_result]⟩

instance desc_unary (x y : Ref sig .tc) (f : x.ty.Contents Val → y.ty.Contents Val) (hx hy) :
    Desc (unary (τ := τ) x y f hx hy) ⟨y, [x]⟩ :=
  ⟨rfl, rfl, unary_bufs_sub .., fun V W h => by
    rw [unary_result, unary_result, h x (by simp)]⟩

instance desc_binary (a b y : Ref sig .tc) (f : a.ty.Contents Val → b.ty.Contents Val → y.ty.Contents Val) (ha hb hy) :
    Desc (binary (τ := τ) a b y f ha hb hy) ⟨y, [a, b]⟩ :=
  ⟨rfl, rfl, binary_bufs_sub .., fun V W h => by
    rw [binary_result, binary_result, h a (by simp), h b (by simp)]⟩

instance desc_ternary (c a b y : Ref sig .tc)
    (f : c.ty.Contents Val → a.ty.Contents Val → b.ty.Contents Val → y.ty.Contents Val) (hc ha hb hy) :
    Desc (ternary (τ := τ) c a b y f hc ha hb hy) ⟨y, [c, a, b]⟩ :=
  ⟨rfl, rfl, ternary_bufs_sub .., fun V W h => by
    rw [ternary_result, ternary_result, h c (by simp), h a (by simp), h b (by simp)]⟩

instance desc_reshape (x y : Ref sig .tc) (he hn hx hy) :
    Desc (reshape (τ := τ) (Val := Val) x y he hn hx hy) ⟨y, [x]⟩ :=
  ⟨rfl, rfl, reshape_bufs_sub .., fun V W h => by
    rw [reshape_result, reshape_result, h x (by simp)]⟩

/-- Each operation of the line touches what is listed. -/
abbrev Descs (ops : List (HloOp τ sig Val)) (ts : List (Touch sig)) : Prop := List.Forall₂ Desc ops ts

/-- A buffer's number. -/
abbrev key (r : Ref sig .tc) : ℕ := r.idx.val

/-- The buffers written are numbered upwards from `n`, each above those its operation reads. -/
def ordered : ℕ → List (Touch sig) → Bool
  | _, [] => true
  | n, t :: ts => decide (n ≤ key t.out) && (t.ins.all fun r => decide (key r < key t.out)) && ordered (key t.out + 1) ts

/-- The contents `W` solve the line: no operation of it changes them. -/
def Solves (W : Valuation τ sig Val) : List (HloOp τ sig Val) → Prop
  | [] => True
  | op :: ops => op.result W = W ∧ Solves W ops

theorem solves_append {W : Valuation τ sig Val} {l₁ l₂ : List (HloOp τ sig Val)} :
    Solves W (l₁ ++ l₂) ↔ Solves W l₁ ∧ Solves W l₂ := by
  induction l₁ with
  | nil => simp [Solves]
  | cons op l ih => simp only [List.cons_append, Solves, ih, and_assoc]

/-- A buffer numbered below the line's is left as it was. -/
theorem after_below {ops : List (HloOp τ sig Val)} {ts : List (Touch sig)} (hd : Descs ops ts) {n : ℕ}
    (ho : ordered n ts = true) (V : Valuation τ sig Val) {r : Ref sig .tc} (hr : key r < n) :
    after ops V (Proc.devRef .tc r) = V (Proc.devRef .tc r) := by
  induction hd generalizing n V with
  | nil => rfl
  | cons h _ ih =>
    simp only [ordered, Bool.and_eq_true, decide_eq_true_eq] at ho
    rw [after_cons, ih ho.2 _ (by omega)]
    exact result_of_writes_ne _ _ _ _ h.writes fun e => by subst e; omega

/-- The contents after the line solve it. -/
theorem solves_after {ops : List (HloOp τ sig Val)} {ts : List (Touch sig)} (hd : Descs ops ts) {n : ℕ}
    (ho : ordered n ts = true) (V : Valuation τ sig Val) : Solves (after ops V) ops := by
  induction hd generalizing n V with
  | nil => trivial
  | @cons op t _ _ h hs ih =>
    simp only [ordered, Bool.and_eq_true, decide_eq_true_eq, List.all_eq_true] at ho
    refine ⟨?_, ih ho.2 _⟩
    funext b
    by_cases hb : b ∈ op.writes
    · rw [h.writes, Finset.mem_singleton] at hb
      subst hb
      rw [after_cons, after_below hs ho.2 _ (Nat.lt_succ_self _)]
      refine h.reads _ _ fun r hr => ?_
      have hlt := ho.1.2 r hr
      rw [after_below hs ho.2 _ (by omega)]
      exact result_of_writes_ne _ _ _ _ h.writes fun e => by subst e; omega
    · exact op.result_of_not_mem _ hb

/-- A straight line read off a printed program: its operations and what they touch. -/
class Line (p : Prog (TpuEff nD τ sig Val Λ .tc) PUnit) where
  /-- The operations, in order. -/
  ops : List (HloOp τ sig Val)
  /-- What they touch. -/
  touches : List (Touch sig)
  /-- They are the program. -/
  isSeq : IsSeq p ops
  /-- They touch that. -/
  descs : Descs ops touches

/-- The empty line. -/
instance Line.nil : Line (nD := nD) (τ := τ) (sig := sig) (Val := Val) (Λ := Λ) (pure ⟨⟩) := ⟨[], [], rfl, .nil⟩

/-- One operation. -/
instance Line.last (op : HloOp τ sig Val) (t : Touch sig) [h : Desc op t] :
    Line (nD := nD) (Λ := Λ) (hlo rfl op fun _ => .ret (⟨⟩ : PUnit)) :=
  ⟨[op], [t], by unfold IsSeq seq; rfl, .cons h .nil⟩

theorem isSeq_append {p q : Prog (TpuEff nD τ sig Val Λ .tc) PUnit} {l₁ l₂ : List (HloOp τ sig Val)} (h : IsSeq p l₁)
    (h' : IsSeq q l₂) : IsSeq (p >>= fun _ => q) (l₁ ++ l₂) := by
  unfold IsSeq at h h' ⊢
  rw [h, h', seq_append]

/-- Two lines in a row. -/
instance Line.append (p q : Prog (TpuEff nD τ sig Val Λ .tc) PUnit) [L : Line p] [M : Line q] :
    Line (p >>= fun _ => q) :=
  ⟨L.ops ++ M.ops, L.touches ++ M.touches, isSeq_append L.isSeq M.isSeq, List.rel_append (R := Desc) L.descs M.descs⟩

theorem ops_nil : (Line.nil (nD := nD) (τ := τ) (sig := sig) (Val := Val) (Λ := Λ)).ops = [] := rfl

theorem ops_last (op : HloOp τ sig Val) (t : Touch sig) [Desc op t] :
    (Line.last (nD := nD) (Λ := Λ) op t).ops = [op] := rfl

theorem ops_append (p q : Prog (TpuEff nD τ sig Val Λ .tc) PUnit) [L : Line p] [M : Line q] :
    (Line.append p q).ops = L.ops ++ M.ops := rfl

/-- The run of a program that is a line on every device: every buffer ends at `after`, and no semaphore is raised. -/
theorem run_line (defs : Defs nD τ sig Val Λ) (main : Dev nD → Prog (TpuEff nD τ sig Val Λ .tc) PUnit)
    {ops : List (HloOp τ sig Val)} {ts : List (Touch sig)} (hmain : ∀ d, IsSeq (main d) ops) (hd : Descs ops ts)
    (hR : (Finset.univ.filter fun b : Ref sig .tc => b.isScoped) = ∅)
    (hC : (Finset.univ.filter fun sm : SemLoc sig => sm.isScoped .tc) = ∅)
    (m : (ℓ : Loc nD τ sig) → Buf Val ℓ) (ρ : Dev nD → PrngReg) :
    θ_run defs (onTc (τ := τ) main) ⟨m, fun _ => 0, ρ⟩ fun r =>
      ∀ (d : Dev nD) (b : Ref sig .tc), r.2.mem ((d.tc : Thread nD τ).loc b) = after ops (launchContents m d) (Proc.devRef .tc b) := by
  have hb : ∀ op ∈ ops, op.bufs ⊆ tcRefs τ sig ∧ op.fresh = ∅ := by
    clear hmain
    induction hd with
    | nil => simp
    | cons h _ ih =>
      intro op hop
      rcases List.mem_cons.mp hop with rfl | hop
      · exact ⟨h.bufs, h.fresh⟩
      · exact ih op hop
  exact run_hlo defs main hmain hR hC (List.forall_iff_forall_mem.mpr fun op ho => (hb op ho).1)
    (fun op ho => (hb op ho).2) m ρ

/-! ## What a solved operation says -/

/-- A typed reference's contents. -/
abbrev rd {T : BufTy} (W : Valuation τ sig Val) (x : TRef sig T) : T.Contents Val := x.ofBuf (W (Proc.devRef .tc x.ref))

section Eqs

variable {W : Valuation τ sig Val} {Tx Ta Tb Tc Ty : BufTy}

theorem solved_iff {op : HloOp τ sig Val} {y : DevRef τ sig} (h : op.writes = {y}) :
    op.result W = W ↔ W y = op.result W y := by
  refine ⟨fun e => by rw [e], fun e => funext fun b => ?_⟩
  by_cases hb : b ∈ op.writes
  · rw [h, Finset.mem_singleton] at hb
    subst hb
    exact e.symm
  · exact op.result_of_not_mem _ hb

section Iff

variable {x y a b c : Ref sig .tc} {hx hy ha hb hc}

theorem nullary_iff {v : y.ty.Contents Val} :
    (nullary (τ := τ) y v hy).result W = W ↔ W (Proc.devRef .tc y) = v := by
  rw [solved_iff (nullary_writes ..), nullary_result]

theorem unary_iff {f : x.ty.Contents Val → y.ty.Contents Val} :
    (unary (τ := τ) x y f hx hy).result W = W ↔ W (Proc.devRef .tc y) = f (W (Proc.devRef .tc x)) := by
  rw [solved_iff (unary_writes ..), unary_result]

theorem binary_iff {f : a.ty.Contents Val → b.ty.Contents Val → y.ty.Contents Val} :
    (binary (τ := τ) a b y f ha hb hy).result W = W ↔
      W (Proc.devRef .tc y) = f (W (Proc.devRef .tc a)) (W (Proc.devRef .tc b)) := by
  rw [solved_iff (binary_writes ..), binary_result]

theorem ternary_iff {f : c.ty.Contents Val → a.ty.Contents Val → b.ty.Contents Val → y.ty.Contents Val} :
    (ternary (τ := τ) c a b y f hc ha hb hy).result W = W ↔
      W (Proc.devRef .tc y) = f (W (Proc.devRef .tc c)) (W (Proc.devRef .tc a)) (W (Proc.devRef .tc b)) := by
  rw [solved_iff (ternary_writes ..), ternary_result]

theorem reshape_iff {he : x.ty.elt = y.ty.elt} {hn} :
    (reshape (τ := τ) (Val := Val) x y he hn hx hy).result W = W ↔
      W (Proc.devRef .tc y) = fun i => he ▸ shapeCast y.ty.shape (W (Proc.devRef .tc x)) hn i := by
  rw [solved_iff (reshape_writes ..), reshape_result]

end Iff

private theorem ofBuf_eq {T : BufTy} {x : TRef sig T} {u : x.ref.ty.Contents Val} {v : T.Contents Val} :
    u = x.toBuf v ↔ x.ofBuf u = v := by
  obtain ⟨r, rfl, _, _⟩ := x
  rfl

theorem tnullary_iff {y : TRef sig Ty} {v : Ty.Contents Val} :
    (TRef.nullary (τ := τ) y v).result W = W ↔ rd W y = v := by
  rw [nullary_iff, ofBuf_eq]

theorem tunary_iff {x : TRef sig Tx} {y : TRef sig Ty} {f : Tx.Contents Val → Ty.Contents Val} :
    (TRef.unary (τ := τ) x y f).result W = W ↔ rd W y = f (rd W x) := by
  rw [unary_iff, ofBuf_eq]

theorem tbinary_iff {a : TRef sig Ta} {b : TRef sig Tb} {y : TRef sig Ty}
    {f : Ta.Contents Val → Tb.Contents Val → Ty.Contents Val} :
    (TRef.binary (τ := τ) a b y f).result W = W ↔ rd W y = f (rd W a) (rd W b) := by
  rw [binary_iff, ofBuf_eq]

theorem tternary_iff {c : TRef sig Tc} {a : TRef sig Ta} {b : TRef sig Tb} {y : TRef sig Ty}
    {f : Tc.Contents Val → Ta.Contents Val → Tb.Contents Val → Ty.Contents Val} :
    (TRef.ternary (τ := τ) c a b y f).result W = W ↔ rd W y = f (rd W c) (rd W a) (rd W b) := by
  rw [ternary_iff, ofBuf_eq]

alias ⟨eq_nullary, _⟩ := tnullary_iff
alias ⟨eq_unary, _⟩ := tunary_iff
alias ⟨eq_binary, _⟩ := tbinary_iff
alias ⟨eq_ternary, _⟩ := tternary_iff

private theorem cast_reshape {s t : Shape} {e : EltTy} {A B : BufTy} (hA : A = ⟨s, e⟩) (hB : B = ⟨t, e⟩)
    (u : A.Contents Val) (he : A.elt = B.elt) (hm : A.shape.ShapeCasts B.shape) (hn : s.ShapeCasts t) :
    cast (congrArg (fun U : BufTy => U.Contents Val) hB) (fun i => he ▸ shapeCast B.shape u hm i)
      = shapeCast t (cast (congrArg (fun U : BufTy => U.Contents Val) hA) u) hn := by
  subst hA hB
  rfl

theorem eq_reshape {s t : Shape} {e : EltTy} {x : TRef sig ⟨s, e⟩} {y : TRef sig ⟨t, e⟩} {hn : s.ShapeCasts t}
    (h : (TRef.reshape (τ := τ) (Val := Val) x y rfl hn).result W = W) :
    rd W y = shapeCast t (rd W x) hn := by
  have := congrFun h (Proc.devRef .tc y.ref)
  rw [reshape_result] at this
  rw [rd, ← this]
  exact cast_reshape x.ty_eq y.ty_eq _ _ _ _

end Eqs

end Cert.Proof

end
-- ==== Proof.Cipher.lean ====
/- The counter cipher both programs draw their random words with: Threefry-2x32 of 20 rounds, written once on words, and
   read off a straight line of host operations round by round. -/
module

public import Idealize.ShloMosaic.Lib.IdealHost
public import Idealize.ShloMosaic.Lib.Pipeline.Value
public import Idealize.ShloMosaic.Lib.Pointwise.ElementwiseCore
public import proofs.«01_k».proof.Proof.Line

@[expose] public section

noncomputable section

namespace Cert.Proof

open Idealize.ShloMosaic Idealize.ShloMosaic.Pipeline Idealize.ShloMosaic.ValueIdx Idealize.ShloMosaic.StableHlo Idealize.SL.Sem

/-! ## The cipher on words -/

/-- One round: add the second word into the first, turn the second left by `k` (`j` is `32 - k`), mix. -/
def mix (k j : BitVec 32) (s : BitVec 32 × BitVec 32) : BitVec 32 × BitVec 32 :=
  (s.1 + s.2, (s.2 <<< k ||| s.2 >>> j) ^^^ (s.1 + s.2))

/-- The first, third and fifth four rounds. -/
def mixA (s : BitVec 32 × BitVec 32) : BitVec 32 × BitVec 32 := mix 6 26 (mix 26 6 (mix 15 17 (mix 13 19 s)))

/-- The second and fourth four rounds. -/
def mixB (s : BitVec 32 × BitVec 32) : BitVec 32 × BitVec 32 := mix 24 8 (mix 16 16 (mix 29 3 (mix 17 15 s)))

/-- A key injection. -/
def key2 (a b n : BitVec 32) (s : BitVec 32 × BitVec 32) : BitVec 32 × BitVec 32 := (s.1 + a, s.2 + b + n)

/-- The third key word. -/
def parity (a b : BitVec 32) : BitVec 32 := a ^^^ b ^^^ 466688986

/-- The cipher of a counter pair under a key pair. -/
def cipher (a b x y : BitVec 32) : BitVec 32 × BitVec 32 :=
  key2 (parity a b) a 5 (mixA (key2 b (parity a b) 4 (mixB (key2 a b 3 (mixA
    (key2 (parity a b) a 2 (mixB (key2 b (parity a b) 1 (mixA (x + a, y + b))))))))))

/-- The random word of a counter below 2^32. -/
def randomWord (a b n : BitVec 32) : BitVec 32 := (cipher a b 0 n).1 ^^^ (cipher a b 0 n).2

/-! ## The cipher on a straight line -/

section OnLine

variable {τ : Topo} {sig : RefSig} {F : FTy → Type} [FloatOps F] {W : Valuation τ sig (Elt F)} {S : Shape}

/-- Two arrays hold the two words of a pair at every index. -/
def Holds (W : Valuation τ sig (Elt F)) (x y : TRef sig ⟨S, .i32⟩) (s : S.Idx → BitVec 32 × BitVec 32) : Prop :=
  ∀ i, rd W x i = (s i).1 ∧ rd W y i = (s i).2

/-- A scalar holds a word. -/
def Word {T : Shape} (W : Valuation τ sig (Elt F)) (x : TRef sig ⟨T, .i32⟩) (a : BitVec 32) : Prop := ∀ i, rd W x i = a

variable {T T' : Shape} {dm : Fin T.rank → Fin S.rank} {hb : T.BroadcastsInDim S dm}

/-- A broadcast scalar. -/
theorem Word.spread {x : TRef sig ⟨T, .i32⟩} {y : TRef sig ⟨S, .i32⟩} {a : BitVec 32} (hx : Word W x a)
    (h : (TRef.unary (τ := τ) (Val := Elt F) x y (broadcastInDim S dm hb)).result W = W) : Word W y a := by
  intro i
  rw [eq_unary h]
  exact hx _

/-- A broadcast literal. -/
theorem Word.literal {c : TRef sig ⟨T, .i32⟩} {y : TRef sig ⟨S, .i32⟩} {n : BitVec 32}
    (h : (TRef.nullary (τ := τ) (Val := Elt F) c (constantI T 32 n)).result W = W)
    (h' : (TRef.unary (τ := τ) (Val := Elt F) c y (broadcastInDim S dm hb)).result W = W) : Word W y n :=
  Word.spread (fun i => by rw [eq_nullary h]; rfl) h'

variable {x y s l c' r o n : TRef sig ⟨S, .i32⟩} {b b' : TRef sig ⟨S, .i32⟩} {c d : TRef sig ⟨T, .i32⟩}
  {k j : BitVec 32} {rest : List (HloOp τ sig (Elt F))} {st : S.Idx → BitVec 32 × BitVec 32}

/-- A round read off nine operations. -/
theorem Holds.round (hs : Holds W x y st) (hk : k.toNat < 32) (hj : j.toNat < 32)
    (h : Solves W (TRef.binary x y s addi :: TRef.nullary c (constantI T 32 k) ::
      TRef.unary c b (broadcastInDim S dm hb) :: TRef.binary y b l Host.shli ::
      TRef.nullary d (constantI T 32 j) :: TRef.unary d b' (broadcastInDim S dm hb) :: TRef.binary y b' r Host.shrui ::
      TRef.binary l r o ori :: TRef.binary s o n xori :: rest)) :
    Holds W s n (fun i => mix k j (st i)) ∧ Solves W rest := by
  obtain ⟨h1, h2, h3, h4, h5, h6, h7, h8, h9, hr⟩ := h
  refine ⟨fun i => ?_, hr⟩
  have e1 : rd W s i = (st i).1 + (st i).2 := by
    rw [eq_binary h1, addi_apply, (hs i).1, (hs i).2]; rfl
  refine ⟨e1, ?_⟩
  rw [eq_binary h9, eq_binary h8, eq_binary h7, eq_binary h4, ← (hs i).2] at *
  show rd W s i ^^^ (IntOp.shli .host (rd W y i) (rd W b i) ||| IntOp.shrui .host (rd W y i) (rd W b' i)) = _
  rw [Word.literal h2 h3 i, Word.literal h5 h6 i, e1, IntOp.shli, IntOp.shrui, if_pos hk, if_pos hj, BitVec.xor_comm, (hs i).2]
  rfl

/-- A key injection read off seven operations. -/
theorem Holds.inject {p q : TRef sig ⟨T', .i32⟩} {dm' : Fin T'.rank → Fin S.rank} {hb' : T'.BroadcastsInDim S dm'}
    {a₁ a₂ : BitVec 32} (hs : Holds W x y st)
    (hp : Word W p a₁) (hq : Word W q a₂)
    (h : Solves W (TRef.unary p b (broadcastInDim S dm' hb') :: TRef.binary x b s addi ::
      TRef.unary q b' (broadcastInDim S dm' hb') :: TRef.binary y b' o addi ::
      TRef.nullary c (constantI T 32 k) :: TRef.unary c l (broadcastInDim S dm hb) :: TRef.binary o l n addi :: rest)) :
    Holds W s n (fun i => key2 a₁ a₂ k (st i)) ∧ Solves W rest := by
  obtain ⟨h1, h2, h3, h4, h5, h6, h7, hr⟩ := h
  refine ⟨fun i => ⟨?_, ?_⟩, hr⟩
  · rw [eq_binary h2, addi_apply, (hs i).1, hp.spread h1 i]; rfl
  · rw [eq_binary h7, addi_apply, eq_binary h4, addi_apply, (hs i).2, hq.spread h3 i, Word.literal h5 h6 i]; rfl

/-- The third key word and the first injection, read off the cipher's first seven operations. -/
theorem Holds.start {p q v w e : TRef sig ⟨T, .i32⟩} {a₁ a₂ : BitVec 32} {f g : S.Idx → BitVec 32}
    (hx : ∀ i, rd W x i = f i) (hy : ∀ i, rd W y i = g i) (hp : Word W p a₁) (hq : Word W q a₂)
    (h : Solves W (TRef.binary p q v xori :: TRef.nullary e (constantI T 32 466688986#32) :: TRef.binary v e w xori ::
      TRef.unary p b (broadcastInDim S dm hb) :: TRef.binary x b s addi ::
      TRef.unary q b' (broadcastInDim S dm hb) :: TRef.binary y b' n addi :: rest)) :
    Word W w (parity a₁ a₂) ∧ Holds W s n (fun i => (f i + a₁, g i + a₂)) ∧ Solves W rest := by
  obtain ⟨h1, h2, h3, h4, h5, h6, h7, hr⟩ := h
  refine ⟨fun i => ?_, fun i => ⟨?_, ?_⟩, hr⟩
  · rw [eq_binary h3, eq_binary h1, eq_nullary h2]
    show rd W p i ^^^ rd W q i ^^^ _ = _
    rw [hp i, hq i]; rfl
  · rw [eq_binary h5, addi_apply, hx i, hp.spread h4 i]; rfl
  · rw [eq_binary h7, addi_apply, hy i, hq.spread h6 i]; rfl

/-- One word of a key pair, cut out and made a scalar. -/
theorem Word.cut {a : TRef sig ⟨⟨1, ![2]⟩, .i32⟩} {v : TRef sig ⟨⟨1, ![1]⟩, .i32⟩} {w : TRef sig ⟨⟨0, ![]⟩, .i32⟩} (k : Fin 2)
    {h : (⟨1, ![2]⟩ : Shape).Slices ![k.val] ⟨1, ![1]⟩} {hn : (⟨1, ![1]⟩ : Shape).ShapeCasts ⟨0, ![]⟩}
    (hv : rd W v = extractStridedSlice ⟨1, ![1]⟩ ![k.val] (rd W a) h)
    (hw : (TRef.reshape (τ := τ) (Val := Elt F) v w rfl hn).result W = W) : Word W w (rd W a (ix1 k)) := by
  intro i
  rw [eq_reshape hw, hv, shapeCast_apply _ _ i (ix1 (0 : Fin 1))]
  · exact extractStridedSlice_apply _ _ _ _ _ fun c => by
      obtain rfl : c = 0 := Subsingleton.elim _ _
      rfl
  · rw [Shape.rowMajor_val_one]
    exact (Shape.rowMajorPi_zero _ _).symm

end OnLine

end Cert.Proof

end
-- ==== Proof.Lookup.lean ====
/- The two host computations both programs share: the row lookup, and the cut of a key pair out of the split keys. -/
module

public import proofs.«01_k».proof.Proof.Cipher
public import Idealize.ShloMosaic.Lib.Pipeline.Value

@[expose] public section

noncomputable section

namespace Cert.Proof

open Idealize.ShloMosaic Idealize.ShloMosaic.Pipeline Idealize.ShloMosaic.ValueIdx

variable {F : FTy → Type} [FloatOps F]

/-- The rows to look up, counted from the end where negative, as a column. -/
def rowsOf (rows : BitVec 32) (h : (⟨0, ![]⟩ : Shape).BroadcastsInDim ⟨1, ![16384]⟩ ![])
    (h' : (⟨1, ![16384]⟩ : Shape).BroadcastsInDim ⟨2, ![16384, 1]⟩ ![0]) (idx : IVec ⟨1, ![16384]⟩ 32) :
    IVec ⟨2, ![16384, 1]⟩ 32 :=
  broadcastInDim ⟨2, ![16384, 1]⟩ ![0] h'
    (select (cmpi .slt idx (broadcastInDim _ ![] h (constantI ⟨0, ![]⟩ 32 0#32)))
      (addi idx (broadcastInDim _ ![] h (constantI ⟨0, ![]⟩ 32 rows))) idx)

/-- The looked-up rows, not a number where the row is out of range. -/
def lookup {T : Shape} (rows last : BitVec 32) (g : GatherDims T ⟨2, ![16384, 1]⟩ ⟨2, ![16384, 32]⟩)
    (h : (⟨0, ![]⟩ : Shape).BroadcastsInDim ⟨1, ![16384]⟩ ![])
    (h' : (⟨1, ![16384]⟩ : Shape).BroadcastsInDim ⟨2, ![16384, 1]⟩ ![0])
    (h₀ : (⟨0, ![]⟩ : Shape).BroadcastsInDim ⟨2, ![16384, 1]⟩ ![])
    (h₁ : (⟨1, ![1]⟩ : Shape).BroadcastsInDim ⟨2, ![1, 1]⟩ ![1])
    (h₂ : (⟨2, ![1, 1]⟩ : Shape).BroadcastsInDim ⟨2, ![16384, 1]⟩ ![0, 1])
    (hr : (⟨2, ![16384, 1]⟩ : Shape).ReducesTo [1] ⟨1, ![16384]⟩)
    (hs : 0 < (⟨0, ![]⟩ : Shape).numel)
    (h₃ : (⟨1, ![16384]⟩ : Shape).BroadcastsInDim ⟨2, ![16384, 32]⟩ ![0])
    (h₄ : (⟨0, ![]⟩ : Shape).BroadcastsInDim ⟨2, ![16384, 32]⟩ ![])
    (table : FVec F T .f32) (idx : IVec ⟨1, ![16384]⟩ 32) : FVec F ⟨2, ![16384, 32]⟩ .f32 :=
  select
    (broadcastInDim ⟨2, ![16384, 32]⟩ ![0] h₃
      (Host.reduce IntOp.andi
        (andi (cmpi .sge (rowsOf rows h h' idx) (broadcastInDim _ ![] h₀ (constantI ⟨0, ![]⟩ 32 0#32)))
          (cmpi .sle (rowsOf rows h h' idx)
            (broadcastInDim _ ![0, 1] h₂ (broadcastInDim ⟨2, ![1, 1]⟩ ![1] h₁ (constantI ⟨1, ![1]⟩ 32 last)))))
        (constantI ⟨0, ![]⟩ 1 1#1) hr hs))
    (Host.gather g table (rowsOf rows h h' idx))
    (broadcastInDim _ ![] h₄ (constant ⟨0, ![]⟩ .f32 0x7FC00000#32))

/-- The key pair of the seed. -/
def seedKey (h : (⟨0, ![]⟩ : Shape).BroadcastsInDim ⟨1, ![1]⟩ ![])
    (hc : Shape.Concatenates [⟨1, ![1]⟩, ⟨1, ![1]⟩] ⟨1, ![2]⟩ 0) : IVec ⟨1, ![2]⟩ 32 :=
  concatenate ⟨1, ![2]⟩ 0
    [⟨⟨1, ![1]⟩, broadcastInDim _ ![] h (Host.shrui (constantI ⟨0, ![]⟩ 32 42#32) (constantI ⟨0, ![]⟩ 32 32#32))⟩,
      ⟨⟨1, ![1]⟩, broadcastInDim _ ![] h (andi (constantI ⟨0, ![]⟩ 32 42#32) (constantI ⟨0, ![]⟩ 32 4294967295#32))⟩] hc

/-- Word `k` of the `r`-th key split off a key pair. -/
def keyWord (key : IVec ⟨1, ![2]⟩ 32) (r k : Fin 2) : BitVec 32 :=
  if k = 0 then (cipher (key (ix1 0)) (key (ix1 1)) 0 (BitVec.ofNat 32 r.val)).1
  else (cipher (key (ix1 0)) (key (ix1 1)) 0 (BitVec.ofNat 32 r.val)).2

/-- The random word of a place, under the `r`-th key split off a key pair. -/
def wordAt (key : IVec ⟨1, ![2]⟩ 32) (r : Fin 2) (n : ℕ) : BitVec 32 :=
  randomWord (keyWord key r 0) (keyWord key r 1) (BitVec.ofNat 32 n)

/-- Row `r` of the split keys, cut out and made a pair, holds the cipher's two words of counter `r`. -/
theorem split_row (x y : IVec ⟨1, ![2]⟩ 32) (r k : Fin 2)
    (hb : (⟨1, ![2]⟩ : Shape).BroadcastsInDim ⟨2, ![2, 1]⟩ ![0])
    (hc : Shape.Concatenates [⟨2, ![2, 1]⟩, ⟨2, ![2, 1]⟩] ⟨2, ![2, 2]⟩ 1)
    (hs : (⟨2, ![2, 2]⟩ : Shape).Slices ![r.val, 0] ⟨2, ![1, 2]⟩)
    (hn : (⟨2, ![1, 2]⟩ : Shape).ShapeCasts ⟨1, ![2]⟩) :
    shapeCast ⟨1, ![2]⟩ (extractStridedSlice ⟨2, ![1, 2]⟩ ![r.val, 0]
      (concatenate ⟨2, ![2, 2]⟩ 1 [⟨⟨2, ![2, 1]⟩, broadcastInDim ⟨2, ![2, 1]⟩ ![0] hb x⟩,
        ⟨⟨2, ![2, 1]⟩, broadcastInDim ⟨2, ![2, 1]⟩ ![0] hb y⟩] hc) hs) hn (ix1 k)
      = if k = 0 then x (ix1 r) else y (ix1 r) := by
  refine (shapeCast_apply _ _ _ (ix2 (0 : Fin 1) k) ?_).trans ?_
  · rw [Shape.rowMajor_val_two, Shape.rowMajor_val_one]
    show 0 * 2 + k.val = k.val
    omega
  refine (extractStridedSlice_apply _ _ _ _ (ix2 r k) ?_).trans ?_
  · intro a
    match a with
    | ⟨0, _⟩ => show r.val = r.val + 0; omega
    | ⟨1, _⟩ => show k.val = 0 + k.val; omega
  obtain rfl | rfl : k = 0 ∨ k = 1 := by omega
  · rw [if_pos rfl]
    refine (concatenate_pair_apply_left (t := ⟨2, ![2, 2]⟩) (1 : Fin 2) _ _ hc (ix2 r (0 : Fin 2)) rfl
      (ix2 r (0 : Fin 1)) ?_).trans ?_
    · intro b
      match b with
      | ⟨0, _⟩ => rfl
      | ⟨1, _⟩ => rfl
    · exact broadcastInDim_apply _ _ _ _ _ fun a => by
        obtain rfl : a = 0 := Subsingleton.elim _ _
        rfl
  · rw [if_neg (by decide)]
    refine (concatenate_pair_apply_right (t := ⟨2, ![2, 2]⟩) (1 : Fin 2) _ _ hc (ix2 r (1 : Fin 2)) rfl rfl
      (ix2 r (0 : Fin 1)) ?_ rfl).trans ?_
    · intro b hb
      match b with
      | ⟨0, _⟩ => rfl
      | ⟨1, _⟩ => exact absurd rfl hb
    · exact broadcastInDim_apply _ _ _ _ _ fun a => by
        obtain rfl : a = 0 := Subsingleton.elim _ _
        rfl

end Cert.Proof

end
-- ==== Proof.Noise.lean ====
/- The normal draw on extended reals: the uniform number a random word stands for, the two programs' ways of making a
   normal number of it, and their equality. -/
module

public import Idealize.ShloMosaic.Lib.IdealHost

@[expose] public section

noncomputable section

namespace Cert.Proof

open Idealize.ShloMosaic

/-- The left end of the uniform draw, `-(1 - 2^-24)`. -/
abbrev lowEnd : EReal := Ideal.ofBits .f32 0xBF7FFFFF#32

/-- One. -/
abbrev unit : EReal := Ideal.ofBits .f32 0x3F800000#32

/-- The uniform number of a random word: its upper 23 bits as a number of `[1, 2)`, moved onto `[lowEnd, 1)`. -/
def uniformOf (w : BitVec 32) : EReal :=
  max lowEnd ((Ideal.ofBits .f32 (w >>> (9#32) ||| 1065353216#32) - unit) * (unit - lowEnd) + lowEnd)

/-- A polynomial of degree 8, its leading coefficient first. -/
def poly (c : Fin 9 → EReal) (t : EReal) : EReal :=
  c 8 + (c 7 + (c 6 + (c 5 + (c 4 + (c 3 + (c 2 + (c 1 + c 0 * t) * t) * t) * t) * t) * t) * t) * t

/-- The coefficients near the middle. -/
def near : Fin 9 → EReal :=
  ![Ideal.ofBits .f32 0x32F16588#32, Ideal.ofBits .f32 0x34B84B36#32, Ideal.ofBits .f32 0xB66C7357#32,
    Ideal.ofBits .f32 0xB6935AC1#32, Ideal.ofBits .f32 0x396532DB#32, Ideal.ofBits .f32 0xBAA45408#32,
    Ideal.ofBits .f32 0xBB88E4EF#32, Ideal.ofBits .f32 0x3E7C8F63#32, Ideal.ofBits .f32 0x3FC02E2F#32]

/-- The coefficients in the tails. -/
def far : Fin 9 → EReal :=
  ![Ideal.ofBits .f32 0xB951F09B#32, Ideal.ofBits .f32 0x38D3B56B#32, Ideal.ofBits .f32 0x3AB0DC72#32,
    Ideal.ofBits .f32 0xBB70BDE7#32, Ideal.ofBits .f32 0x3BBC127B#32, Ideal.ofBits .f32 0xBBF9C5D7#32,
    Ideal.ofBits .f32 0x3C1AA57E#32, Ideal.ofBits .f32 0x3F8036DB#32, Ideal.ofBits .f32 0x40354F7E#32]

/-- The reference's inverse error function, over `w = -log1p (-u²)`: one polynomial, its coefficients and its argument
    selected, and the infinity at `|u| = 1`. -/
def erfInv (u w : EReal) : EReal :=
  Scalar.select (Ideal.cmp .oeq (max u (-u)) unit) (u * Ideal.ofBits .f32 0x7F800000#32)
    (poly (fun k => Scalar.select (Ideal.cmp .olt w (Ideal.ofBits .f32 0x40A00000#32)) (near k) (far k))
      (Scalar.select (Ideal.cmp .olt w (Ideal.ofBits .f32 0x40A00000#32)) (w - Ideal.ofBits .f32 0x40200000#32)
        (Ideal.sqrt w - Ideal.ofBits .f32 0x40400000#32)) * u)

/-- The reference's normal number of a uniform one. -/
def normalOf (u : EReal) : EReal := Ideal.sqrt (Ideal.ofBits .f32 0x40000000#32) * erfInv u (-(Ideal.log1p (u * -u)))

/-- The kernel's inverse error function times the root of two, over `w = -log ((1 - u) (1 + u))`: two polynomials, one
    selected. -/
def scaled (u w : EReal) : EReal :=
  ((Real.sqrt 2 : ℝ) : EReal) *
    Scalar.select (Ideal.cmp .olt w (Ideal.ofBits .f32 0x40A00000#32)) (poly near (w - Ideal.ofBits .f32 0x40200000#32))
      (poly far (Ideal.sqrt w - Ideal.ofBits .f32 0x40400000#32)) * u

/-- The kernel's normal number of a uniform one. -/
def kernelNormal (u : EReal) : EReal :=
  scaled u (Ideal.ofBits .f32 0x00000000#32 - Ideal.log ((unit - u) * (unit + u)))

/-- The reference's sample: a normal number of standard deviation `exp l` about `μ`. -/
def sampleOf (μ l u : EReal) : EReal := μ + Ideal.exp l * normalOf u

/-- The kernel's sample. -/
def kernelSample (μ l u : EReal) : EReal := μ + Ideal.exp l * kernelNormal u

/-! ## The literals -/

theorem unit_eq : unit = ((1 : ℝ) : EReal) := Idealize.ShloMosaic.Ideal.ofBits_one_f32

theorem lowEnd_eq : lowEnd = ((-(1 - 1 / 2 ^ 24) : ℝ) : EReal) := by
  have hn : ((0xBF7FFFFF#32 : BitVec 32).extractLsb' 31 1 == 1#1) = true := by decide
  have he : ((0xBF7FFFFF#32 : BitVec 32).extractLsb' 23 8).toNat = 126 := by decide
  have hf : ((0xBF7FFFFF#32 : BitVec 32).extractLsb' 0 23).toNat = 8388607 := by decide
  simp only [lowEnd, Ideal.ofBits, Ideal.ieee]
  rw [show 8 + 23 = 31 from rfl, hn, he, hf]
  norm_num

/-- The reference's root of two is the kernel's. -/
theorem root_eq : Ideal.sqrt (Ideal.ofBits .f32 0x40000000#32) = ((Real.sqrt 2 : ℝ) : EReal) := by
  have h : Ideal.ofBits .f32 0x40000000#32 = ((2 : ℝ) : EReal) := by
    simp [Ideal.ofBits, Ideal.ieee, -EReal.coe_mul]
    norm_num
  rw [h, Ideal.sqrt_coe, if_neg (by norm_num)]

/-- A word with one's exponent stands for a number of `[1, 2)`. -/
theorem mantissa (w : BitVec 32) :
    ∃ r : ℝ, Ideal.ofBits .f32 (w >>> (9#32) ||| 1065353216#32) = (r : EReal) ∧ 1 ≤ r ∧ r < 2 := by
  obtain ⟨q, hq, hb⟩ : ∃ q < 2 ^ 23, (w >>> (9#32) ||| 1065353216#32).toNat = 127 * 2 ^ 23 + q := by
    refine ⟨w.toNat / 2 ^ 9, by have := w.isLt; omega, ?_⟩
    have h : w.toNat / 2 ^ 9 < 2 ^ 23 := by have := w.isLt; omega
    rw [BitVec.toNat_or, BitVec.ushiftRight_eq', BitVec.toNat_ushiftRight, Nat.or_comm,
      show (9#32 : BitVec 32).toNat = 9 from rfl, Nat.shiftRight_eq_div_pow,
      show (1065353216#32 : BitVec 32).toNat = 127 <<< 23 from rfl, ← Nat.shiftLeft_add_eq_or_of_lt h, Nat.shiftLeft_eq]
  generalize (w >>> (9#32) ||| 1065353216#32) = b at hb
  have hn : (b.extractLsb' 31 1 == 1#1) = false := by
    rw [beq_eq_false_iff_ne]
    intro h
    have := congrArg BitVec.toNat h
    rw [BitVec.extractLsb'_toNat, hb, Nat.shiftRight_eq_div_pow] at this
    have e : (127 * 2 ^ 23 + q) / 2 ^ 31 = 0 := by omega
    rw [e] at this
    simp at this
  have he : (b.extractLsb' 23 8).toNat = 127 := by
    rw [BitVec.extractLsb'_toNat, hb, Nat.shiftRight_eq_div_pow]; omega
  have hf : (b.extractLsb' 0 23).toNat = q := by
    rw [BitVec.extractLsb'_toNat, hb, Nat.shiftRight_eq_div_pow]; omega
  have hq' : (q : ℝ) < 2 ^ 23 := by exact_mod_cast hq
  refine ⟨(2 ^ 23 + q) / 2 ^ 23, ?_, ?_, ?_⟩
  · simp only [Ideal.ofBits, Ideal.ieee]
    rw [show 8 + 23 = 31 from rfl, hn, he, hf]
    rw [if_neg (by norm_num), if_neg (by norm_num)]
    refine congrArg Real.toEReal ?_
    push_cast
    norm_num [div_eq_mul_inv]
  · rw [le_div_iff₀ (by positivity)]
    have : (0 : ℝ) ≤ q := Nat.cast_nonneg q
    linarith
  · rw [div_lt_iff₀ (by positivity)]
    linarith

/-- A uniform number is a real one strictly between -1 and 1. -/
theorem uniformOf_real (w : BitVec 32) : ∃ r : ℝ, uniformOf w = (r : EReal) ∧ -1 < r ∧ r < 1 := by
  obtain ⟨r, hr, h1, h2⟩ := mantissa w
  refine ⟨max (-(1 - 1 / 2 ^ 24)) ((r - 1) * (1 - -(1 - 1 / 2 ^ 24)) + -(1 - 1 / 2 ^ 24)), ?_, ?_, ?_⟩
  · rw [uniformOf, hr, lowEnd_eq, unit_eq]
    norm_cast
  · refine lt_of_lt_of_le ?_ (le_max_left _ _)
    norm_num
  · refine max_lt (by norm_num) ?_
    nlinarith

/-! ## The two draws agree -/

theorem draws_eq (w : BitVec 32) : kernelNormal (uniformOf w) = normalOf (uniformOf w) := by
  obtain ⟨r, hr, h1, h2⟩ := uniformOf_real w
  rw [hr]
  have hw : Ideal.ofBits .f32 0x00000000#32 - Ideal.log ((unit - (r : EReal)) * (unit + r))
      = -(Ideal.log1p ((r : EReal) * -r)) := by
    rw [show Ideal.ofBits .f32 0x00000000#32 = 0 by simp [Ideal.ofBits, Ideal.ieee], unit_eq, zero_sub, Ideal.log1p]
    congr 2
    norm_cast
    ring
  have hc : Ideal.cmp .oeq (max (r : EReal) (-r)) unit = 0 := by
    have : ¬ max (r : EReal) (-r) = unit := by
      rw [unit_eq]
      rw [← EReal.coe_neg, ← EReal.coe_strictMono.monotone.map_max]
      exact fun e => ne_of_lt (max_lt h2 (by linarith)) (EReal.coe_injective e)
    simp only [Ideal.cmp, this, decide_false]
    rfl
  rw [kernelNormal, normalOf, root_eq, hw, scaled, erfInv, hc, mul_assoc]
  generalize -(Ideal.log1p ((r : EReal) * -r)) = v
  generalize Ideal.cmp .olt v (Ideal.ofBits .f32 0x40A00000#32) = s
  rw [show ∀ a b : EReal, Scalar.select (0 : BitVec 1) a b = b from fun _ _ => rfl]
  by_cases h : s = 1
  · simp only [Scalar.select, if_pos h]
  · simp only [Scalar.select, if_neg h]

/-- On the uniform number of a word the two samples agree. -/
theorem samples_eq (μ l : EReal) (w : BitVec 32) :
    kernelSample μ l (uniformOf w) = sampleOf μ l (uniformOf w) := by
  rw [kernelSample, draws_eq, sampleOf]

end Cert.Proof

end
-- ==== Proof.RefLine.lean ====
/- The reference program as one straight line of host operations, read off its printed text. -/
module

public import proofs.«01_k».proof.Proof.Gen.ReferenceIdeal
public import Idealize.ShloMosaic.PureOps.Ideal
public import proofs.«01_k».proof.Proof.Line

@[expose] public section

set_option maxRecDepth 10000
set_option synthInstance.maxHeartbeats 0
set_option synthInstance.maxSize 4000
set_option maxHeartbeats 0

noncomputable section

namespace Cert.Proof.Reference

open Idealize.ShloMosaic Idealize.ShloMosaic.StableHlo Idealize.SL.Sem Cert.ReferenceIdeal

section Read

variable {F : FTy → Type} [FloatOps F] [Facts]

/-! The module-local functions, over any arguments and any call's buffers. -/

instance (a b : TRef sig ⟨S_, .i32⟩) (x y : TRef sig ⟨S2, .i32⟩) (φ : fn_threefry2x32.Bufs) : Line (fn_threefry2x32.body_part0 (F := F) a b x y φ) := by
  delta fn_threefry2x32.body_part0; infer_instance

instance (a b : TRef sig ⟨S_, .i32⟩) (x y : TRef sig ⟨S2, .i32⟩) (φ : fn_threefry2x32.Bufs) : Line (fn_threefry2x32.body_part1 (F := F) a b x y φ) := by
  delta fn_threefry2x32.body_part1; infer_instance

instance (a b : TRef sig ⟨S_, .i32⟩) (x y : TRef sig ⟨S2, .i32⟩) (φ : fn_threefry2x32.Bufs) : Line (fn_threefry2x32.body_part2 (F := F) a b x y φ) := by
  delta fn_threefry2x32.body_part2; infer_instance

instance (a b : TRef sig ⟨S_, .i32⟩) (x y : TRef sig ⟨S2, .i32⟩) (φ : fn_threefry2x32.Bufs) : Line (fn_threefry2x32.body_part3 (F := F) a b x y φ) := by
  delta fn_threefry2x32.body_part3; infer_instance

instance lineCipher (a b : TRef sig ⟨S_, .i32⟩) (x y : TRef sig ⟨S2, .i32⟩) (φ : fn_threefry2x32.Bufs) : Line (fn_threefry2x32.body (F := F) a b x y φ) := by
  delta fn_threefry2x32.body; infer_instance

instance (a b : TRef sig ⟨S_, .i32⟩) (x y : TRef sig ⟨S16x16384x32, .i32⟩) (φ : fn_threefry2x32_0.Bufs) : Line (fn_threefry2x32_0.body_part0 (F := F) a b x y φ) := by
  delta fn_threefry2x32_0.body_part0; infer_instance

instance (a b : TRef sig ⟨S_, .i32⟩) (x y : TRef sig ⟨S16x16384x32, .i32⟩) (φ : fn_threefry2x32_0.Bufs) : Line (fn_threefry2x32_0.body_part1 (F := F) a b x y φ) := by
  delta fn_threefry2x32_0.body_part1; infer_instance

instance (a b : TRef sig ⟨S_, .i32⟩) (x y : TRef sig ⟨S16x16384x32, .i32⟩) (φ : fn_threefry2x32_0.Bufs) : Line (fn_threefry2x32_0.body_part2 (F := F) a b x y φ) := by
  delta fn_threefry2x32_0.body_part2; infer_instance

instance (a b : TRef sig ⟨S_, .i32⟩) (x y : TRef sig ⟨S16x16384x32, .i32⟩) (φ : fn_threefry2x32_0.Bufs) : Line (fn_threefry2x32_0.body_part3 (F := F) a b x y φ) := by
  delta fn_threefry2x32_0.body_part3; infer_instance

instance lineCipher0 (a b : TRef sig ⟨S_, .i32⟩) (x y : TRef sig ⟨S16x16384x32, .i32⟩) (φ : fn_threefry2x32_0.Bufs) : Line (fn_threefry2x32_0.body (F := F) a b x y φ) := by
  delta fn_threefry2x32_0.body; infer_instance

instance lineSplit (a : TRef sig ⟨S2, .i32⟩) (φ : fn_threefry_split.Bufs) : Line (fn_threefry_split.body (F := F) a φ) := by
  delta fn_threefry_split.body; infer_instance

instance lineWhere (a : TRef sig ⟨S16384, .i1⟩) (b c : TRef sig ⟨S16384, .i32⟩) (φ : fn_where.Bufs) : Line (fn_where.body (F := F) a b c φ) := by
  delta fn_where.body; infer_instance

instance lineTake (a : TRef sig ⟨S100000x32, .f32⟩) (b : TRef sig ⟨S16384, .i32⟩) (φ : fn_take.Bufs) : Line (fn_take.body (F := F) a b φ) := by
  delta fn_take.body; infer_instance

instance lineTake3 (a : TRef sig ⟨S1000x32, .f32⟩) (b : TRef sig ⟨S16384, .i32⟩) (φ : fn_take_3.Bufs) : Line (fn_take_3.body (F := F) a b φ) := by
  delta fn_take_3.body; infer_instance

instance lineUniform (a : TRef sig ⟨S2, .i32⟩) (b c : TRef sig ⟨S_, .f32⟩) (φ : fn_uniform.Bufs) : Line (fn_uniform.body (F := F) a b c φ) := by
  delta fn_uniform.body; infer_instance

instance lineWhere1 (a : TRef sig ⟨S16x16384x32, .i1⟩) (b c : TRef sig ⟨S16x16384x32, .f32⟩) (φ : fn_where_1.Bufs) : Line (fn_where_1.body (F := F) a b c φ) := by
  delta fn_where_1.body; infer_instance

instance lineWhere2 (a : TRef sig ⟨S16x16384x32, .i1⟩) (b c : TRef sig ⟨S_, .f32⟩) (φ : fn_where_2.Bufs) : Line (fn_where_2.body (F := F) a b c φ) := by
  delta fn_where_2.body; infer_instance

/-! The whole program. -/

instance linePart0 (d : Dev nD) : Line (main_part0 (F := F) d) := by
  delta main_part0; infer_instance

instance linePart1 (d : Dev nD) : Line (main_part1 (F := F) d) := by
  delta main_part1; infer_instance

instance linePart2 (d : Dev nD) : Line (main_part2 (F := F) d) := by
  delta main_part2; infer_instance

instance linePart3 (d : Dev nD) : Line (main_part3 (F := F) d) := by
  delta main_part3; infer_instance

instance lineMain (d : Dev nD) : Line (main (F := F) d) := by
  delta main; infer_instance

end Read

/-- The reference's line, at the ideal floats. -/
abbrev line (d : Dev nD) : Line (main (F := Ideal) d) := inferInstance

theorem ordered_main (d : Dev nD) : ordered 6 (line d).touches = true := by
  decide +kernel +revert

/-- What the reference's buffers hold at its end. -/
def contents (m : (ℓ : Loc nD τ sig) → Buf (Elt Ideal) ℓ) (d : Dev nD) : Valuation τ sig (Elt Ideal) :=
  after (line d).ops (launchContents m d)

/-- The reference runs, and ends holding what its line leaves. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc),
        r.2.mem ((d.tc : Thread nD τ).loc b) = contents m d (Proc.devRef .tc b) :=
  θ_run_mono (run_line defs main (ops := (line 0).ops) (fun d => by obtain rfl : d = 0 := Subsingleton.elim _ _; exact (line 0).isSeq) (line 0).descs (by decide) (by decide) m ρ)
    fun r h d b => by obtain rfl : d = 0 := Subsingleton.elim _ _; exact h 0 b

/-- The arguments end as they began. -/
theorem contents_arg (m : (ℓ : Loc nD τ sig) → Buf (Elt Ideal) ℓ) (d : Dev nD) {r : Ref sig .tc} (h : key r < 6) :
    contents m d (Proc.devRef .tc r) = m ((d.tc : Thread nD τ).loc r) :=
  after_below (line d).descs (ordered_main d) _ h

/-- The final contents solve the line. -/
theorem contents_solve (m : (ℓ : Loc nD τ sig) → Buf (Elt Ideal) ℓ) (d : Dev nD) : Solves (contents m d) (line d).ops :=
  solves_after (line d).descs (ordered_main d) _

end Cert.Proof.Reference

end
-- ==== Proof.RefCipher.lean ====
/- The cipher's value in the reference's two calls of it. -/
module

public import proofs.«01_k».proof.Proof.Cipher
public import proofs.«01_k».proof.Proof.RefLine

@[expose] public section

set_option maxRecDepth 10000
set_option maxHeartbeats 0

noncomputable section

namespace Cert.Proof.Reference

open Idealize.ShloMosaic Idealize.ShloMosaic.StableHlo Idealize.SL.Sem Cert.ReferenceIdeal

variable [Facts] {W : Valuation τ sig (Elt Ideal)}

/-- The cipher over the two counters of the key split. -/
theorem cipher_split {a b : TRef sig ⟨S_, .i32⟩} {x y : TRef sig ⟨S2, .i32⟩} {φ : fn_threefry2x32.Bufs}
    (h : Solves W (lineCipher a b x y φ).ops) {p q : BitVec 32}
    (hp : Word W a p) (hq : Word W b q) :
    Holds W φ.v171 φ.v175 fun i => cipher p q (rd W x i) (rd W y i) := by
  obtain ⟨hw, hs, h⟩ := Holds.start (fun _ => rfl) (fun _ => rfl) hp hq h
  iterate 4 obtain ⟨hs, h⟩ := hs.round (by decide) (by decide) h
  obtain ⟨hs, h⟩ := hs.inject hq hw h
  iterate 4 obtain ⟨hs, h⟩ := hs.round (by decide) (by decide) h
  obtain ⟨hs, h⟩ := hs.inject hw hp h
  iterate 4 obtain ⟨hs, h⟩ := hs.round (by decide) (by decide) h
  obtain ⟨hs, h⟩ := hs.inject hp hq h
  iterate 4 obtain ⟨hs, h⟩ := hs.round (by decide) (by decide) h
  obtain ⟨hs, h⟩ := hs.inject hq hw h
  iterate 4 obtain ⟨hs, h⟩ := hs.round (by decide) (by decide) h
  exact (hs.inject hw hp h).1

/-- The cipher over the counters of a draw. -/
theorem cipher_draw {a b : TRef sig ⟨S_, .i32⟩} {x y : TRef sig ⟨S16x16384x32, .i32⟩} {φ : fn_threefry2x32_0.Bufs}
    (h : Solves W (lineCipher0 a b x y φ).ops) {p q : BitVec 32}
    (hp : Word W a p) (hq : Word W b q) :
    Holds W φ.v171 φ.v175 fun i => cipher p q (rd W x i) (rd W y i) := by
  obtain ⟨hw, hs, h⟩ := Holds.start (fun _ => rfl) (fun _ => rfl) hp hq h
  iterate 4 obtain ⟨hs, h⟩ := hs.round (by decide) (by decide) h
  obtain ⟨hs, h⟩ := hs.inject hq hw h
  iterate 4 obtain ⟨hs, h⟩ := hs.round (by decide) (by decide) h
  obtain ⟨hs, h⟩ := hs.inject hw hp h
  iterate 4 obtain ⟨hs, h⟩ := hs.round (by decide) (by decide) h
  obtain ⟨hs, h⟩ := hs.inject hp hq h
  iterate 4 obtain ⟨hs, h⟩ := hs.round (by decide) (by decide) h
  obtain ⟨hs, h⟩ := hs.inject hq hw h
  iterate 4 obtain ⟨hs, h⟩ := hs.round (by decide) (by decide) h
  exact (hs.inject hw hp h).1

end Cert.Proof.Reference

end
-- ==== Proof.RefValue.lean ====
/- The value of the reference's uniform draw. -/
module

public import Idealize.ShloMosaic.Lib.Pipeline.Value
public import proofs.«01_k».proof.Proof.RefCipher
public import proofs.«01_k».proof.Proof.Noise

@[expose] public section

set_option maxRecDepth 10000
set_option maxHeartbeats 0

noncomputable section

namespace Cert.Proof.Reference

open Idealize.ShloMosaic Idealize.ShloMosaic.StableHlo Idealize.SL.Sem Cert.ReferenceIdeal Idealize.ShloMosaic.Pipeline Idealize.ShloMosaic.ValueIdx

variable [Facts] {W : Valuation τ sig (Elt Ideal)}

/-- A draw's counter: the element's row-major place, below 2^23. -/
theorem counter (s b d : ℕ) (hs : s < 16) (hb : b < 16384) (hd : d < 32) :
    (524288#64 * BitVec.ofNat 64 s + 32#64 * BitVec.ofNat 64 b + 1#64 * BitVec.ofNat 64 d)
      = BitVec.ofNat 64 (524288 * s + 32 * b + d) := by
  apply BitVec.eq_of_toNat_eq
  simp only [BitVec.toNat_add, BitVec.toNat_mul, BitVec.toNat_ofNat]
  omega

theorem counter_low (n : ℕ) : (BitVec.ofNat 64 n).truncate 32 = BitVec.ofNat 32 n := by
  apply BitVec.eq_of_toNat_eq
  simp only [BitVec.truncate_eq_setWidth, BitVec.toNat_setWidth, BitVec.toNat_ofNat]
  omega

theorem counter_high (n : ℕ) (hn : n < 2 ^ 32) : ((BitVec.ofNat 64 n) >>> (32#64)).truncate 32 = (0 : BitVec 32) := by
  apply BitVec.eq_of_toNat_eq
  simp only [BitVec.truncate_eq_setWidth, BitVec.toNat_setWidth, BitVec.ushiftRight_eq', BitVec.toNat_ushiftRight,
    BitVec.toNat_ofNat, Nat.shiftRight_eq_div_pow]
  simp
  omega

/-- The uniform draw at an element, from the key pair and the element's place. -/
theorem uniform_value {a : TRef sig ⟨S2, .i32⟩} {b c : TRef sig ⟨S_, .f32⟩} {φ : fn_uniform.Bufs}
    (h : Solves W (lineUniform a b c φ).ops) (hb : ∀ i, rd W b i = lowEnd) (hc : ∀ i, rd W c i = unit)
    (s : Fin 16) (e : Fin 16384) (d : Fin 32) :
    rd W φ.v37 (ix3 s e d) = uniformOf (randomWord (rd W a (ix1 0)) (rd W a (ix1 1))
      (BitVec.ofNat 32 (524288 * s.val + 32 * e.val + d.val))) := by
  delta lineUniform fn_uniform.body at h
  simp only [ops_append, ops_last, ops_nil, solves_append, Solves, and_true, and_assoc, tunary_iff, tbinary_iff,
    tnullary_iff] at h
  obtain ⟨h0, h1, h2, h3, h4, h5, h6, h7, h8, h9, hc0, h10, h11, hc1, h12, h13, hc2, h14, h15, h16, h17, hc3, h18, h19,
    h20, h21, hcall, h23, hc4, h24, h25, hc5, h26, h27, h28, hc6, h29, h30, h31, h32, h33, h34, h35, h36, h37⟩ := h
  have hk := cipher_draw hcall (Word.cut 0 h3 h4) (Word.cut 1 h5 h6) (ix3 s e d)
  have hn : rd W φ.v17 (ix3 s e d) = BitVec.ofNat 64 (524288 * s.val + 32 * e.val + d.val) := by
    rw [← counter s.val e.val d.val s.isLt e.isLt d.isLt, h17, h16, h15, h14, hc2, h13, h12, hc1, h11, h10, hc0, h9, h8, h7]
    rfl
  have hlow : rd W φ.v20 (ix3 s e d) = BitVec.ofNat 32 (524288 * s.val + 32 * e.val + d.val) := by
    rw [← counter_low, ← hn, h20]; rfl
  have hhigh : rd W φ.v21 (ix3 s e d) = 0 := by
    rw [← counter_high (524288 * s.val + 32 * e.val + d.val) (by omega), ← hn, h21, h19, h18, hc3]; rfl
  simp only [hlow, hhigh] at hk
  have hw : rd W φ.v23 (ix3 s e d) = randomWord (rd W a (ix1 0)) (rd W a (ix1 1))
      (BitVec.ofNat 32 (524288 * s.val + 32 * e.val + d.val)) := by
    rw [h23, randomWord, ← hk.1, ← hk.2]; rfl
  rw [← hw, uniformOf, h37, h36, h35, h34, h33, h32, h31, h30, h29, hc6, h28, h27, h26, hc5, h25, h24, hc4, h2, h1, h0]
  show max (rd W b _) ((_ - _) * (rd W c _ - rd W b _) + rd W b _) = _
  simp only [hb, hc]
  rfl

end Cert.Proof.Reference

end
-- ==== Proof.RefMain.lean ====
/- What the reference computes: its keys, its looked-up rows, and its two results at every index. -/
module

public import proofs.«01_k».proof.Proof.Lookup
public import proofs.«01_k».proof.Proof.Noise
public import proofs.«01_k».proof.Proof.RefValue

@[expose] public section

set_option maxRecDepth 10000
set_option maxHeartbeats 0

noncomputable section

namespace Cert.Proof.Reference

open Idealize.ShloMosaic Idealize.ShloMosaic.StableHlo Idealize.SL.Sem Cert.ReferenceIdeal Idealize.ShloMosaic.Pipeline Idealize.ShloMosaic.ValueIdx
open Facts₀ Facts

variable {W : Valuation τ sig (Elt Ideal)}

/-- The first lookup, of a hundred thousand rows. -/
theorem take_value {a : TRef sig ⟨S100000x32, .f32⟩} {b : TRef sig ⟨S16384, .i32⟩}
    {φ : fn_take.Bufs} (h : Solves W (lineTake (F := Ideal) a b φ).ops) :
    rd W φ.v16 = lookup (F := Ideal) 100000#32 99999#32 gather_S100000x32_S16384x1_S16384x32_1_0_n_n_0_1_132 bcast_S_S16384
      bcast_S16384_S16384x1_0 bcast_S_S16384x1 bcast_S1_S1x1_1 bcast_S1x1_S16384x1_0_1
      reducesTo_S16384x1_S16384_d1 h_S_ bcast_S16384_S16384x32_0 bcast_S_S16384x32 (rd W a) (rd W b) := by
  delta lineTake fn_take.body lineWhere fn_where.body at h
  simp only [ops_append, ops_last, ops_nil, solves_append, Solves, and_true, and_assoc, tunary_iff, tbinary_iff,
    tternary_iff, tnullary_iff] at h
  obtain ⟨h1, h2, h3, h4, h5, h6, h7, h8, h9, h10, h11, h12, h13, h14, h15, h16, h17, h18, h19, h20, h21, h22, h23⟩ := h
  rw [h23, h22, h21, h20, h19, h18, h17, h16, h15, h14, h13, h12, h11, h10, h9, h8, h7, h6, h5, h4, h3, h2, h1]
  rfl

/-- The second lookup, of a thousand rows. -/
theorem take3_value {a : TRef sig ⟨S1000x32, .f32⟩} {b : TRef sig ⟨S16384, .i32⟩}
    {φ : fn_take_3.Bufs} (h : Solves W (lineTake3 (F := Ideal) a b φ).ops) :
    rd W φ.v16 = lookup (F := Ideal) 1000#32 999#32 gather_S1000x32_S16384x1_S16384x32_1_0_n_n_0_1_132 bcast_S_S16384
      bcast_S16384_S16384x1_0 bcast_S_S16384x1 bcast_S1_S1x1_1 bcast_S1x1_S16384x1_0_1
      reducesTo_S16384x1_S16384_d1 h_S_ bcast_S16384_S16384x32_0 bcast_S_S16384x32 (rd W a) (rd W b) := by
  delta lineTake3 fn_take_3.body lineWhere fn_where.body at h
  simp only [ops_append, ops_last, ops_nil, solves_append, Solves, and_true, and_assoc, tunary_iff, tbinary_iff,
    tternary_iff, tnullary_iff] at h
  obtain ⟨h1, h2, h3, h4, h5, h6, h7, h8, h9, h10, h11, h12, h13, h14, h15, h16, h17, h18, h19, h20, h21, h22, h23⟩ := h
  rw [h23, h22, h21, h20, h19, h18, h17, h16, h15, h14, h13, h12, h11, h10, h9, h8, h7, h6, h5, h4, h3, h2, h1]
  rfl

/-- The keys split off a pair, row by row. -/
theorem split_value {a : TRef sig ⟨S2, .i32⟩} {φ : fn_threefry_split.Bufs} (h : Solves W (lineSplit (F := Ideal) a φ).ops)
    (r k : Fin 2) (hs : S2x2.Slices ![r.val, 0] S1x2) (hn : S1x2.ShapeCasts S2) :
    shapeCast S2 (extractStridedSlice S1x2 ![r.val, 0] (rd W φ.v14) hs) hn (ix1 k) = keyWord (rd W a) r k := by
  delta lineSplit fn_threefry_split.body at h
  simp only [ops_append, ops_last, ops_nil, solves_append, Solves, and_true, and_assoc, tunary_iff, tbinary_iff,
    tnullary_iff] at h
  obtain ⟨h0, h1, h2, h3, h4, hc, h5, h6, hc0, h7, h8, h9, h10, hcall, h12, h13, h14⟩ := h
  have hk := cipher_split hcall (Word.cut 0 h0 h1) (Word.cut 1 h2 h3) (ix1 r)
  have hlow : rd W φ.v9 (ix1 r) = BitVec.ofNat 32 r.val := by
    rw [h9, h6, h5, hc, h4]
    obtain rfl | rfl : r = 0 ∨ r = 1 := by omega
    all_goals rfl
  have hhigh : rd W φ.v10 (ix1 r) = 0 := by
    rw [h10, h8, h7, hc0, h6, h5, hc, h4]
    obtain rfl | rfl : r = 0 ∨ r = 1 := by omega
    all_goals rfl
  simp only [hlow, hhigh] at hk
  rw [h14, h13, h12]
  refine (split_row _ _ r k _ _ hs hn).trans ?_
  rw [hk.1, hk.2]
  rfl

theorem rd_of {r : Ref sig .tc} {T : BufTy} (h : r.ty = T) (g g') :
    rd W (TRef.of r h g g') = cast (congrArg (fun t : BufTy => t.Contents (Elt Ideal)) h) (W (Proc.devRef .tc r)) := by
  subst h; rfl

/-- A row table spread over the samples. -/
theorem spread_rows (a : FVec Ideal S16384x32 .f32) (h : S16384x32.BroadcastsInDim S1x16384x32 ![1, 2])
    (h' : S1x16384x32.BroadcastsInDim S16x16384x32 ![0, 1, 2]) (s : Fin 16) (e : Fin 16384) (f : Fin 32) :
    broadcastInDim S16x16384x32 ![0, 1, 2] h' (broadcastInDim S1x16384x32 ![1, 2] h a) (ix3 s e f) = a (ix2 e f) := by
  refine (broadcastInDim_apply _ _ _ _ (ix3 (0 : Fin 1) e f) fun b => ?_).trans
    (broadcastInDim_apply _ _ _ _ _ fun b => ?_)
  · match b with
    | ⟨0, _⟩ => rfl
    | ⟨1, _⟩ => rfl
    | ⟨2, _⟩ => rfl
  · match b with
    | ⟨0, _⟩ => rfl
    | ⟨1, _⟩ => rfl

theorem parts {d : Dev nD} (h : Solves W (line d).ops) :
    Solves W (linePart0 (F := Ideal) d).ops ∧ Solves W (linePart1 (F := Ideal) d).ops ∧
      Solves W (linePart2 (F := Ideal) d).ops ∧ Solves W (linePart3 (F := Ideal) d).ops := by
  have e : line d = lineMain d := rfl
  rw [e] at h
  have e : (lineMain (F := Ideal) d).ops = (linePart0 (F := Ideal) d).ops ++ ((linePart1 (F := Ideal) d).ops ++
    ((linePart2 (F := Ideal) d).ops ++ (linePart3 (F := Ideal) d).ops)) := rfl
  rw [e] at h
  simpa only [solves_append] using h

/-- The first result at an index. -/
theorem sample {d : Dev nD} (h : Solves W (line d).ops) (s : Fin 16) (e : Fin 16384) (f : Fin 32) :
    W (Proc.devRef .tc main_v77) (ix3 s e f) = sampleOf (W (Proc.devRef .tc main_v12) (ix2 e f))
      (W (Proc.devRef .tc main_v13) (ix2 e f)) (W (Proc.devRef .tc main_v15) (ix3 s e f)) := by
  obtain ⟨h0, h1, -, -⟩ := parts h
  delta linePart0 main_part0 lineWhere1 fn_where_1.body lineWhere2 fn_where_2.body at h0
  delta linePart1 main_part1 lineWhere1 fn_where_1.body lineWhere2 fn_where_2.body at h1
  simp only [ops_append, ops_last, ops_nil, solves_append, Solves, and_true, and_assoc, true_and, unary_iff, binary_iff, ternary_iff, nullary_iff, reshape_iff, tternary_iff, tunary_iff, rd_of, cast_eq] at h0 h1
  simp only [h0, h1]
  rw [addf_apply, mulf_apply, spread_rows, spread_rows]
  rfl

/-- The second result at an index. -/
theorem sample' {d : Dev nD} (h : Solves W (line d).ops) (s : Fin 16) (e : Fin 16384) (f : Fin 32) :
    W (Proc.devRef .tc main_v143) (ix3 s e f) = sampleOf (W (Proc.devRef .tc main_v78) (ix2 e f))
      (W (Proc.devRef .tc main_v79) (ix2 e f)) (W (Proc.devRef .tc main_v81) (ix3 s e f)) := by
  obtain ⟨-, h0, h1, h2⟩ := parts h
  delta linePart1 main_part1 lineWhere1 fn_where_1.body lineWhere2 fn_where_2.body at h0
  delta linePart2 main_part2 lineWhere1 fn_where_1.body lineWhere2 fn_where_2.body at h1
  delta linePart3 main_part3 lineWhere1 fn_where_1.body lineWhere2 fn_where_2.body at h2
  simp only [ops_append, ops_last, ops_nil, solves_append, Solves, and_true, and_assoc, true_and, unary_iff, binary_iff, ternary_iff, nullary_iff, reshape_iff, tternary_iff, tunary_iff, rd_of, cast_eq] at h0 h1 h2
  simp only [h0, h1, h2]
  rw [addf_apply, mulf_apply, spread_rows, spread_rows]
  rfl

/-- The key data and the draws of the first result. -/
theorem head {d : Dev nD} (h : Solves W (line d).ops) :
    W (Proc.devRef .tc main_v6) = seedKey bcast_S_S1 concatenates_S1_S1_S2_d0 ∧
    Solves W (lineSplit (F := Ideal) (.of main_v6) main_call0).ops ∧
    W (Proc.devRef .tc main_v9) = shapeCast S2 (extractStridedSlice S1x2 ![0, 0] (W (Proc.devRef .tc main_v7)) slices_S2x2_S1x2_0_0) shapeCasts_S1x2_S2 ∧
    W (Proc.devRef .tc main_v11) = shapeCast S2 (extractStridedSlice S1x2 ![1, 0] (W (Proc.devRef .tc main_v7)) slices_S2x2_S1x2_1_0) shapeCasts_S1x2_S2 ∧
    Solves W (lineTake (F := Ideal) (.of main_arg0) (.of main_arg4) main_call1).ops ∧
    Solves W (lineTake (F := Ideal) (.of main_arg1) (.of main_arg4) main_call2).ops ∧
    W (Proc.devRef .tc main_cst) = (fun _ => lowEnd) ∧ W (Proc.devRef .tc main_cst_2) = (fun _ => unit) ∧
    Solves W (lineUniform (F := Ideal) (.of main_v9) (.of main_cst) (.of main_cst_2) main_call3).ops := by
  obtain ⟨h0, -, -, -⟩ := parts h
  delta linePart0 main_part0 at h0
  simp only [ops_append, ops_last, ops_nil, solves_append, Solves, and_true, and_assoc, true_and, unary_iff, binary_iff, nullary_iff, reshape_iff] at h0
  obtain ⟨hc, hc0, h0, h1, h2, hc1, h3, h4, h5, h6, hs, h8, h9, h10, h11, ht, ht', -, hl, hu, hd, -⟩ := h0
  refine ⟨?_, hs, ?_, ?_, ht, ht', hl, hu, hd⟩
  · rw [h6, h5, h4, h3, hc1, h2, h1, h0, hc0, hc]
    rfl
  · rw [h9, h8]
    rfl
  · rw [h11, h10]
    rfl

/-- The draws of the second result. -/
theorem head' {d : Dev nD} (h : Solves W (line d).ops) :
    Solves W (lineTake3 (F := Ideal) (.of main_arg2) (.of main_arg5) main_call15).ops ∧
    Solves W (lineTake3 (F := Ideal) (.of main_arg3) (.of main_arg5) main_call16).ops ∧
    W (Proc.devRef .tc main_cst_27) = (fun _ => lowEnd) ∧ W (Proc.devRef .tc main_cst_28) = (fun _ => unit) ∧
    Solves W (lineUniform (F := Ideal) (.of main_v11) (.of main_cst_27) (.of main_cst_28) main_call17).ops := by
  obtain ⟨-, h1, -, -⟩ := parts h
  delta linePart1 main_part1 at h1
  simp only [ops_append, ops_last, ops_nil, solves_append, Solves, and_true, and_assoc, true_and, unary_iff, binary_iff, nullary_iff, reshape_iff] at h1
  iterate 47 replace h1 := h1.2
  obtain ⟨ht, ht', -, hl, hu, hd, -⟩ := h1
  exact ⟨ht, ht', hl, hu, hd⟩

/-- The looked-up rows of a table of a hundred thousand. -/
def rows (t : FVec Ideal S100000x32 .f32) (i : IVec S16384 32) : FVec Ideal S16384x32 .f32 :=
  lookup (F := Ideal) 100000#32 99999#32 gather_S100000x32_S16384x1_S16384x32_1_0_n_n_0_1_132 bcast_S_S16384
    bcast_S16384_S16384x1_0 bcast_S_S16384x1 bcast_S1_S1x1_1 bcast_S1x1_S16384x1_0_1
    reducesTo_S16384x1_S16384_d1 h_S_ bcast_S16384_S16384x32_0 bcast_S_S16384x32 t i

/-- The looked-up rows of a table of a thousand. -/
def rows' (t : FVec Ideal S1000x32 .f32) (i : IVec S16384 32) : FVec Ideal S16384x32 .f32 :=
  lookup (F := Ideal) 1000#32 999#32 gather_S1000x32_S16384x1_S16384x32_1_0_n_n_0_1_132 bcast_S_S16384
    bcast_S16384_S16384x1_0 bcast_S_S16384x1 bcast_S1_S1x1_1 bcast_S1x1_S16384x1_0_1
    reducesTo_S16384x1_S16384_d1 h_S_ bcast_S16384_S16384x32_0 bcast_S_S16384x32 t i

/-- The seed's key pair. -/
def seed : IVec S2 32 := seedKey bcast_S_S1 concatenates_S1_S1_S2_d0

/-- The first result: at each index the sample of the looked-up mean and log deviation. -/
theorem result {d : Dev nD} (h : Solves W (line d).ops) (s : Fin 16) (e : Fin 16384) (f : Fin 32) :
    W (Proc.devRef .tc main_v77) (ix3 s e f)
      = sampleOf (rows (W (Proc.devRef .tc main_arg0)) (W (Proc.devRef .tc main_arg4)) (ix2 e f))
          (rows (W (Proc.devRef .tc main_arg1)) (W (Proc.devRef .tc main_arg4)) (ix2 e f))
          (uniformOf (wordAt seed 0 (524288 * s.val + 32 * e.val + f.val))) := by
  obtain ⟨h6, hs, h9, -, ht, ht', hl, hu, hd⟩ := head h
  have hk (k : Fin 2) : W (Proc.devRef .tc main_v9) (ix1 k) = keyWord seed 0 k :=
    (congrFun h9 _).trans ((split_value hs 0 k slices_S2x2_S1x2_0_0 shapeCasts_S1x2_S2).trans
      (congrArg (fun x => keyWord x 0 k) h6))
  refine (sample h s e f).trans ?_
  refine congr (congr (congrArg sampleOf ?_) ?_) ?_
  · exact congrFun (take_value ht) (ix2 e f)
  · exact congrFun (take_value ht') (ix2 e f)
  · refine (uniform_value hd (fun i => congrFun hl i) (fun i => congrFun hu i) s e f).trans ?_
    exact congrArg₂ (fun a b => uniformOf (randomWord a b _)) (hk 0) (hk 1)

/-- The second result. -/
theorem result' {d : Dev nD} (h : Solves W (line d).ops) (s : Fin 16) (e : Fin 16384) (f : Fin 32) :
    W (Proc.devRef .tc main_v143) (ix3 s e f)
      = sampleOf (rows' (W (Proc.devRef .tc main_arg2)) (W (Proc.devRef .tc main_arg5)) (ix2 e f))
          (rows' (W (Proc.devRef .tc main_arg3)) (W (Proc.devRef .tc main_arg5)) (ix2 e f))
          (uniformOf (wordAt seed 1 (524288 * s.val + 32 * e.val + f.val))) := by
  obtain ⟨h6, hs, -, h11, -⟩ := head h
  obtain ⟨ht, ht', hl, hu, hd⟩ := head' h
  have hk (k : Fin 2) : W (Proc.devRef .tc main_v11) (ix1 k) = keyWord seed 1 k :=
    (congrFun h11 _).trans ((split_value hs 1 k slices_S2x2_S1x2_1_0 shapeCasts_S1x2_S2).trans
      (congrArg (fun x => keyWord x 1 k) h6))
  refine (sample' h s e f).trans ?_
  refine congr (congr (congrArg sampleOf ?_) ?_) ?_
  · exact congrFun (take3_value ht) (ix2 e f)
  · exact congrFun (take3_value ht') (ix2 e f)
  · refine (uniform_value hd (fun i => congrFun hl i) (fun i => congrFun hu i) s e f).trans ?_
    exact congrArg₂ (fun a b => uniformOf (randomWord a b _)) (hk 0) (hk 1)

end Cert.Proof.Reference

end
-- ==== Proof.KerHost.lean ====
/- What the kernel's host code hands its two calls: the keys, and the looked-up rows laid out flat. -/
module

public import proofs.«01_k».proof.Proof.Gen.KernelIdeal.Launch
public import proofs.«01_k».proof.Proof.Gen.KernelIdeal.Frame
public import proofs.«01_k».proof.Proof.RefMain

@[expose] public section

set_option maxRecDepth 16384
set_option synthInstance.maxHeartbeats 0
set_option synthInstance.maxSize 4000
set_option maxHeartbeats 0

noncomputable section

namespace Cert.Proof

open Idealize.ShloMosaic Idealize.ShloMosaic.StableHlo Idealize.SL.Sem

/-- A list of operations with what they touch. -/
class Listed {τ : Topo} {sig : RefSig} {Val : EltTy → Type} (ops : List (HloOp τ sig Val)) (ts : outParam (List (Touch sig))) : Prop where
  /-- They touch that. -/
  descs : Descs ops ts

instance Listed.nil {τ : Topo} {sig : RefSig} {Val : EltTy → Type} : Listed ([] : List (HloOp τ sig Val)) [] := ⟨.nil⟩

instance Listed.cons {τ : Topo} {sig : RefSig} {Val : EltTy → Type} (op : HloOp τ sig Val) (t : Touch sig) (ops : List (HloOp τ sig Val)) (ts : List (Touch sig))
    [h : Desc op t] [hs : Listed ops ts] : Listed (op :: ops) (t :: ts) := ⟨.cons h hs.descs⟩

theorem Listed.append {τ : Topo} {sig : RefSig} {Val : EltTy → Type} {l l' : List (HloOp τ sig Val)} {ts ts' : List (Touch sig)}
    (h : Listed l ts) (h' : Listed l' ts') : Listed (l ++ l') (ts ++ ts') := ⟨List.rel_append (R := Desc) h.descs h'.descs⟩

namespace Kernel

open Cert.KernelIdeal Cert.KernelIdeal.Gen Idealize.ShloMosaic.Pipeline Idealize.ShloMosaic.ValueIdx

/-- The host operations before the first call. -/
abbrev before : List (HloOp τ sig (Elt Ideal)) :=
  hostOps0 ++ (hostOps0_1 ++ (hostOps0_2 ++ (hostOps0_3 ++ (hostOps0_4 ++ (hostOps0_5 ++ (hostOps0_6 ++ (hostOps0_7 ++
    (hostOps0_8 ++ (hostOps0_9 ++ hostOps0_10)))))))))

theorem before_listed : ∃ ts, Listed before ts ∧ ordered 6 ts = true := by
  refine ⟨_, .append inferInstance (.append inferInstance (.append inferInstance (.append inferInstance (.append inferInstance
    (.append inferInstance (.append inferInstance (.append inferInstance (.append inferInstance (.append inferInstance
      inferInstance))))))))), ?_⟩
  decide +kernel

theorem before_solved (m : (ℓ : Loc nD τ sig) → Buf (Elt Ideal) ℓ) (ρ : Dev nD → PrngReg) (c : Dev nD) :
    Solves (W11 m ρ c) before := by
  obtain ⟨ts, h, ho⟩ := before_listed
  have e : W11 m ρ c = after before (W0 m ρ c) := by
    simp only [before, after_append]
  rw [e]
  exact solves_after h.descs ho _

variable {W : Valuation τ sig (Elt Ideal)}

/-- A literal reference's contents. -/
theorem rd_of {r : Ref sig .tc} {T : BufTy} (h : r.ty = T) (g g') :
    rd W (TRef.of r h g g') = cast (congrArg (fun t : BufTy => t.Contents (Elt Ideal)) h) (W (Proc.devRef .tc r)) := by
  subst h; rfl

/-- The seed's key pair, split in two. -/
theorem split_solved (h : Solves W (hostOps0_1 (F := Ideal))) (r k : Fin 2) (hs : S2x2.Slices ![r.val, 0] S1x2)
    (hn : S1x2.ShapeCasts S2) :
    shapeCast S2 (extractStridedSlice S1x2 ![r.val, 0] (W (Proc.devRef .tc main_v7)) hs) hn (ix1 k)
      = keyWord (W (Proc.devRef .tc main_v6)) r k := by
  obtain ⟨h0, h1, h2, h3, h4, hc, h5, h6, hc0, h7, h8, h9, h10, h⟩ := h
  rw [tunary_iff] at h0 h2 h5 h7 h9 h10
  rw [tbinary_iff] at h6 h8
  rw [tnullary_iff] at h4 hc hc0
  obtain ⟨hw, hst, h⟩ := Holds.start (fun _ => rfl) (fun _ => rfl) (Word.cut 0 h0 h1) (Word.cut 1 h2 h3) h
  have hp := Word.cut 0 h0 h1
  have hq := Word.cut 1 h2 h3
  iterate 4 obtain ⟨hst, h⟩ := hst.round (by decide) (by decide) h
  obtain ⟨hst, h⟩ := hst.inject hq hw h
  iterate 4 obtain ⟨hst, h⟩ := hst.round (by decide) (by decide) h
  obtain ⟨hst, h⟩ := hst.inject hw hp h
  iterate 4 obtain ⟨hst, h⟩ := hst.round (by decide) (by decide) h
  obtain ⟨hst, h⟩ := hst.inject hp hq h
  iterate 4 obtain ⟨hst, h⟩ := hst.round (by decide) (by decide) h
  obtain ⟨hst, h⟩ := hst.inject hq hw h
  iterate 4 obtain ⟨hst, h⟩ := hst.round (by decide) (by decide) h
  obtain ⟨hst, h12, h13, h14, -⟩ := hst.inject hw hp h
  rw [tunary_iff] at h12 h13
  rw [tbinary_iff] at h14
  have hk := hst (ix1 r)
  have hlow : rd W (.of main_call0_v9 : TRef sig ⟨S2, .i32⟩) (ix1 r) = BitVec.ofNat 32 r.val := by
    rw [h9, h6, h5, hc, h4]
    obtain rfl | rfl : r = 0 ∨ r = 1 := by omega
    all_goals rfl
  have hhigh : rd W (.of main_call0_v10 : TRef sig ⟨S2, .i32⟩) (ix1 r) = 0 := by
    rw [h10, h8, h7, hc0, h6, h5, hc, h4]
    obtain rfl | rfl : r = 0 ∨ r = 1 := by omega
    all_goals rfl
  simp only [hlow, hhigh] at hk
  have e : W (Proc.devRef .tc main_v7) = rd W (.of main_v7 : TRef sig ⟨S2x2, .i32⟩) := rfl
  rw [e, h14, h13, h12]
  refine (split_row _ _ r k _ _ hs hn).trans ?_
  rw [hk.1, hk.2]
  rfl

/-- The seed's key pair. -/
theorem seed_solved (h : Solves W (hostOps0 (F := Ideal))) : W (Proc.devRef .tc main_v6) = Reference.seed := by
  simp only [Solves, and_true, unary_iff, binary_iff, nullary_iff] at h
  obtain ⟨hc, hc0, h0, h1, h2, hc1, h3, h4, h5, h6⟩ := h
  rw [h6, h5, h4, h3, hc1, h2, h1, h0, hc0, hc]
  rfl

/-- The first call's key. -/
theorem key_first (h : Solves W before) (k : Fin 2) : W (Proc.devRef .tc main_v9) (ix1 k) = keyWord Reference.seed 0 k := by
  simp only [before, solves_append] at h
  obtain ⟨h0, h1, h2, -⟩ := h
  simp only [Solves, and_true, unary_iff, reshape_iff] at h2
  rw [h2.2.1, h2.1]
  exact (split_solved h1 0 k slices_S2x2_S1x2_0_0 shapeCasts_S1x2_S2).trans (congrArg (fun x => keyWord x 0 k) (seed_solved h0))

/-- The second call's key. -/
theorem key_second (h : Solves W before) (k : Fin 2) : W (Proc.devRef .tc main_v11) (ix1 k) = keyWord Reference.seed 1 k := by
  simp only [before, solves_append] at h
  obtain ⟨h0, h1, h2, -⟩ := h
  simp only [Solves, and_true, unary_iff, reshape_iff] at h2
  rw [h2.2.2.2, h2.2.2.1]
  exact (split_solved h1 1 k slices_S2x2_S1x2_1_0 shapeCasts_S1x2_S2).trans (congrArg (fun x => keyWord x 1 k) (seed_solved h0))

/-! The four flat arrays of looked-up rows. -/

theorem rows_mean (h : Solves W (hostOps0_3 (F := Ideal))) (h' : Solves W (hostOps0_4 (F := Ideal))) :
    W (Proc.devRef .tc main_v13) = shapeCast S1x524288
      (Reference.rows (W (Proc.devRef .tc main_arg0)) (W (Proc.devRef .tc main_arg4))) shapeCasts_S16384x32_S1x524288 := by
  simp only [Solves, and_true, tunary_iff, tbinary_iff, tternary_iff, tnullary_iff, reshape_iff, rd_of, cast_eq] at h h'
  simp only [h', h]
  rfl

theorem rows_log (h : Solves W (hostOps0_5 (F := Ideal))) (h' : Solves W (hostOps0_6 (F := Ideal))) :
    W (Proc.devRef .tc main_v15) = shapeCast S1x524288
      (Reference.rows (W (Proc.devRef .tc main_arg1)) (W (Proc.devRef .tc main_arg4))) shapeCasts_S16384x32_S1x524288 := by
  simp only [Solves, and_true, tunary_iff, tbinary_iff, tternary_iff, tnullary_iff, reshape_iff, rd_of, cast_eq] at h h'
  simp only [h', h]
  rfl

theorem rows_mean' (h : Solves W (hostOps0_7 (F := Ideal))) (h' : Solves W (hostOps0_8 (F := Ideal))) :
    W (Proc.devRef .tc main_v17) = shapeCast S1x524288
      (Reference.rows' (W (Proc.devRef .tc main_arg2)) (W (Proc.devRef .tc main_arg5))) shapeCasts_S16384x32_S1x524288 := by
  simp only [Solves, and_true, tunary_iff, tbinary_iff, tternary_iff, tnullary_iff, reshape_iff, rd_of, cast_eq] at h h'
  simp only [h', h]
  rfl

theorem rows_log' (h : Solves W (hostOps0_9 (F := Ideal))) (h' : Solves W (hostOps0_10 (F := Ideal))) :
    W (Proc.devRef .tc main_v19) = shapeCast S1x524288
      (Reference.rows' (W (Proc.devRef .tc main_arg3)) (W (Proc.devRef .tc main_arg5))) shapeCasts_S16384x32_S1x524288 := by
  simp only [Solves, and_true, tunary_iff, tbinary_iff, tternary_iff, tnullary_iff, reshape_iff, rd_of, cast_eq] at h h'
  simp only [h', h]
  rfl

end Kernel

end Cert.Proof

end
-- ==== Proof.KerBody.lean ====
/- The kernel's body at one index of its block: the cipher of the sample's counter, the uniform number and the sample. -/
module

public import proofs.«01_k».proof.Proof.Gen.KernelIdeal.Skeleton
public import Idealize.ShloMosaic.Lib.Pipeline.Value
public import proofs.«01_k».proof.Proof.Cipher
public import proofs.«01_k».proof.Proof.Noise

@[expose] public section

noncomputable section

namespace Cert.Proof.Kernel

open Idealize.ShloMosaic Idealize.ShloMosaic.StableHlo Idealize.SL.Sem Idealize.ShloMosaic.ValueIdx Idealize.ShloMosaic.Pipeline
open Cert.KernelIdeal Cert.KernelIdeal.Gen

/-! ## The counter -/

/-- The row shifted left by 19, or the column below 2^19, is the flat position. -/
theorem counter (r c : Nat) (hr : r < 16) (hc : c < 524288) :
    (BitVec.ofNat 32 r <<< 19#32 ||| BitVec.ofNat 32 c) = BitVec.ofNat 32 (524288 * r + c) := by
  apply BitVec.eq_of_toNat_eq
  have h : r <<< 19 ||| c = 2 ^ 19 * r + c := by
    rw [Nat.shiftLeft_eq, Nat.mul_comm]
    exact (Nat.two_pow_add_eq_or_of_lt hc r).symm
  simp only [BitVec.toNat_or, BitVec.shiftLeft_eq', BitVec.toNat_shiftLeft, BitVec.toNat_ofNat]
  rw [show 19 % 2 ^ 32 = 19 from rfl, Nat.mod_eq_of_lt (a := r) (by omega), Nat.mod_eq_of_lt (a := c) (by omega),
    Nat.mod_eq_of_lt (a := r <<< 19) (by rw [Nat.shiftLeft_eq]; omega), h, Nat.mod_eq_of_lt (by omega)]
  rfl

/-- The column of a lane of a grid point's block. -/
theorem column (i l : Nat) (hi : i < 128) (hl : l < 4096) :
    BitVec.ofNat 32 l + BitVec.ofNat 32 i * 4096#32 = BitVec.ofNat 32 (i * 4096 + l) := by
  apply BitVec.eq_of_toNat_eq
  simp only [BitVec.toNat_add, BitVec.toNat_mul, BitVec.toNat_ofNat]
  omega

variable (i : grid0.Coords) (a b : BitVec 32) (y : S16x4096.Idx)

/-- The flat position of an index of a grid point's block. -/
def place : Nat := 524288 * (y 0).val + ((i 0).val * 4096 + (y 1).val)

theorem start : k0_pay2 (F := Ideal) i b y = BitVec.ofNat 32 (place i y) + b := by
  have hi : (i 0).val < 128 := (i 0).isLt
  have h0 : (y 0).val < 16 := (y 0).isLt
  have h1 : (y 1).val < 4096 := (y 1).isLt
  rw [place, ← counter _ _ h0 (by omega), ← column _ _ hi h1]
  have e : iota .tc S16x4096 32 [0] iota_S16x4096_d0_w32 y = BitVec.ofNat 32 (y 0).val := iota_single_apply ..
  have e' : iota .tc S16x4096 32 [1] iota_S16x4096_d1_w32 y = BitVec.ofNat 32 (y 1).val := iota_single_apply ..
  rw [← e, ← e']
  rfl

/-! ## The rounds -/

/-- The first four rounds. -/
theorem rounds_1 : (k0_pay9 (F := Ideal) i a b y, k0_pay10 (F := Ideal) i a b y)
    = mixA (0 + a, BitVec.ofNat 32 (place i y) + b) := by
  rw [← start]
  have e : (k0_pay3 (F := Ideal) i a b y, k0_pay4 (F := Ideal) i a b y) = mix 13 19 (0 + a, k0_pay2 (F := Ideal) i b y) := rfl
  have e' : (k0_pay5 (F := Ideal) i a b y, k0_pay6 (F := Ideal) i a b y)
      = mix 15 17 (k0_pay3 (F := Ideal) i a b y, k0_pay4 (F := Ideal) i a b y) := rfl
  have e'' : (k0_pay7 (F := Ideal) i a b y, k0_pay8 (F := Ideal) i a b y)
      = mix 26 6 (k0_pay5 (F := Ideal) i a b y, k0_pay6 (F := Ideal) i a b y) := rfl
  have e3 : (k0_pay9 (F := Ideal) i a b y, k0_pay10 (F := Ideal) i a b y)
      = mix 6 26 (k0_pay7 (F := Ideal) i a b y, k0_pay8 (F := Ideal) i a b y) := rfl
  rw [e3, e'', e', e, mixA]

variable (q : BitVec 32) (v w : IVec S16x4096 32)

/-- The next four rounds, and the first two after them. -/
theorem rounds_2 : (k0_pay22 (F := Ideal) a b q v w y,
      k0_pay23 (k0_pay21 (F := Ideal) a b q v w) (k0_pay22 (F := Ideal) a b q v w) y)
    = mix 15 17 (mix 13 19 (key2 q a 2 (mixB (key2 b q 1 (v y, w y))))) := by
  have e : (k0_pay12 (F := Ideal) b q v w y, k0_pay13 (F := Ideal) b q v w y) = mix 17 15 (key2 b q 1 (v y, w y)) := rfl
  have e' : (k0_pay14 (F := Ideal) b q v w y, k0_pay15 (F := Ideal) b q v w y)
      = mix 29 3 (k0_pay12 (F := Ideal) b q v w y, k0_pay13 (F := Ideal) b q v w y) := rfl
  have e'' : (k0_pay16 (F := Ideal) b q v w y, k0_pay17 (F := Ideal) b q v w y)
      = mix 16 16 (k0_pay14 (F := Ideal) b q v w y, k0_pay15 (F := Ideal) b q v w y) := rfl
  have e3 : (k0_pay20 (F := Ideal) a b q v w y, k0_pay21 (F := Ideal) a b q v w y)
      = mix 13 19 (key2 q a 2 (mix 24 8 (k0_pay16 (F := Ideal) b q v w y, k0_pay17 (F := Ideal) b q v w y))) := rfl
  rw [mixB, ← e, ← e', ← e'', ← e3]
  rfl

/-- The two rounds after those, the injection and three rounds more. -/
theorem rounds_3 : (k0_pay32 (F := Ideal) a b v w y, k0_pay33 (F := Ideal) a b v w y)
    = mix 16 16 (mix 29 3 (mix 17 15 (key2 a b 3 (mix 6 26 (mix 26 6 (w y, k0_pay23 v w y)))))) := by
  have e : (k0_pay24 v w y, k0_pay25 v w y) = mix 26 6 (w y, k0_pay23 v w y) := rfl
  have e' : (k0_pay28 (F := Ideal) a b v w y, k0_pay29 (F := Ideal) a b v w y)
      = mix 17 15 (key2 a b 3 (mix 6 26 (k0_pay24 v w y, k0_pay25 v w y))) := rfl
  have e'' : (k0_pay30 (F := Ideal) a b v w y, k0_pay31 (F := Ideal) a b v w y)
      = mix 29 3 (k0_pay28 (F := Ideal) a b v w y, k0_pay29 (F := Ideal) a b v w y) := rfl
  rw [← e, ← e', ← e'']
  rfl

/-- The remaining rounds, and the two words mixed. -/
theorem rounds_4 : k0_pay34 (F := Ideal) a b q v w y
    = (key2 q a 5 (mixA (key2 b q 4 (mix 24 8 (v y, w y))))).1 ^^^
      (key2 q a 5 (mixA (key2 b q 4 (mix 24 8 (v y, w y))))).2 := rfl

/-- The random words of a grid point's block. -/
def words : IVec S16x4096 32 :=
  k0_pay34 (F := Ideal) a b q
    (k0_pay32 (F := Ideal) a b (k0_pay21 (F := Ideal) a b q v w) (k0_pay22 (F := Ideal) a b q v w))
    (k0_pay33 (F := Ideal) a b (k0_pay21 (F := Ideal) a b q v w) (k0_pay22 (F := Ideal) a b q v w))

theorem words_apply (hq : q = parity a b) :
    words a b q (k0_pay9 (F := Ideal) i a b) (k0_pay10 (F := Ideal) i a b) y = randomWord a b (BitVec.ofNat 32 (place i y)) := by
  subst hq
  rw [words, rounds_4, rounds_3, rounds_2, rounds_1]
  rfl

/-! ## The sample -/

variable (μ l : Vec Ideal S1x4096 .f32) (z : IVec S16x4096 32)

/-- The stored block, from the random words and the two rows. -/
def stored : FVec Ideal S16x4096 .f32 :=
  k0_pay1 (k0_pay40 (k0_pay35 z) (k0_pay36 z) (k0_pay37 z) (k0_pay38 z) k0_pay39) (k0_pay41 l) μ

theorem uniform_apply : k0_pay35 (F := Ideal) z y = uniformOf (z y) := rfl

theorem log_apply : k0_pay36 (F := Ideal) z y
    = Ideal.ofBits .f32 0x00000000#32 - Ideal.log ((unit - uniformOf (z y)) * (unit + uniformOf (z y))) := rfl

/-- The named constant is the root of two. -/
theorem named_root : Named.named (F := Ideal) (φ := .f32) κ "root_two" 0x3FB504F3#32 = ((Real.sqrt 2 : ℝ) : EReal) :=
  IdealRules.named_const.ideal_named_scalar _ _ _ _ rfl

theorem normal_apply : k0_pay40 (F := Ideal) (k0_pay35 z) (k0_pay36 z) (k0_pay37 z) (k0_pay38 z) k0_pay39 y
    = kernelNormal (uniformOf (z y)) := by
  rw [kernelNormal, ← log_apply, ← uniform_apply, scaled, ← named_root]
  rfl

/-- A row spread over the block's rows. -/
theorem row_apply (x : FVec Ideal S1x4096 .f32) :
    broadcastTo S16x4096 x broadcasts_S1x4096_S16x4096 y = x (ix2 0 (y 1)) :=
  broadcastTo_apply _ _ _ _ fun a => by fin_cases a <;> rfl

theorem stored_apply : stored μ l z y
    = kernelSample (μ (ix2 0 (y 1))) (l (ix2 0 (y 1))) (uniformOf (z y)) := by
  rw [kernelSample, ← normal_apply, stored, k0_pay1, k0_pay41]
  simp only [shapeCast_self]
  rw [addf_apply, mulf_apply, row_apply, row_apply]
  rfl

end Cert.Proof.Kernel

end
-- ==== Proof.KerArr.lean ====
/- The two calls' result arrays: every block of the grid holds its samples, and the blocks cover the array. -/
module

public import proofs.«01_k».proof.Proof.Gen.KernelIdeal.Frame
public import proofs.«01_k».proof.Proof.KerBody
public import Idealize.ShloMosaic.Lib.Pipeline.ValueKit

@[expose] public section

set_option maxRecDepth 16384

noncomputable section

namespace Cert.Proof.Kernel

open Idealize.ShloMosaic Idealize.ShloMosaic.StableHlo Idealize.SL.Sem Idealize.ShloMosaic.TcCoe
open Cert.KernelIdeal Cert.KernelIdeal.Gen Idealize.ShloMosaic.Pipeline

/-- The samples over the whole array, from a key pair and the two rows. -/
def drawn (k : S2.Idx → BitVec 32) (μ l : S1x524288.Idx → EReal) (j : S16x524288.Idx) : EReal :=
  kernelSample (μ (ValueIdx.ix2 0 (j 1))) (l (ValueIdx.ix2 0 (j 1)))
    (uniformOf (randomWord (k (ValueIdx.ix1 0)) (k (ValueIdx.ix1 1)) (BitVec.ofNat 32 (524288 * (j 0).val + (j 1).val))))

/-- The third key word, as the body mixes it. -/
theorem parity_eq (a b : BitVec 32) : Scalar.xori (Scalar.xori 466688986#32 a) b = parity a b := by
  show 466688986#32 ^^^ a ^^^ b = a ^^^ b ^^^ 466688986#32
  ac_rfl

/-- A grid point's stored block is its part of the samples: its rows are the rows' parts at the point's columns, and its
    key words are the key's. -/
theorem block_eq (i : grid0.Coords) (k : S2.Idx → BitVec 32) (μ l : S1x524288.Idx → EReal) (x z : Vec Ideal S1x4096 .f32)
    (a b : BitVec 32) (y : S16x4096.Idx) (j : S16x524288.Idx) (hx : x (ValueIdx.ix2 0 (y 1)) = μ (ValueIdx.ix2 0 (j 1)))
    (hz : z (ValueIdx.ix2 0 (y 1)) = l (ValueIdx.ix2 0 (j 1))) (ha : a = k (ValueIdx.ix1 0)) (hb : b = k (ValueIdx.ix1 1))
    (h0 : (j 0).val = (y 0).val) (h1 : (j 1).val = (i 0).val * 4096 + (y 1).val) :
    stored x z (words a b (Scalar.xori (Scalar.xori 466688986#32 a) b) (k0_pay9 (F := Ideal) i a b) (k0_pay10 (F := Ideal) i a b)) y
      = drawn k μ l j := by
  rw [stored_apply, words_apply _ _ _ _ _ (parity_eq _ _), drawn, hx, hz, ha, hb, h0, h1, place]

variable (V : (c : Dev nD) → (b : Ref sig .tc) → Buf (Elt Ideal) ((c : Thread nD τ).loc b))

/-- The first call's block positions. -/
theorem first_steps (t : Fin cfg0.N) : win0_0.index t 0 = 0 ∧
    (win0_1.index t 0 = 0 ∧ win0_1.index t 1 = (grid0.coords t 0).val) ∧
    (win0_2.index t 0 = 0 ∧ win0_2.index t 1 = (grid0.coords t 0).val) ∧
    win0_3.index t 0 = 0 ∧ win0_3.index t 1 = (grid0.coords t 0).val := by
  revert t; decide +kernel

/-- The first call leaves its samples. -/
theorem first_drawn (c : Dev nD) : (dat0 V c).arrAt 3 cfg0.N = drawn (V c main_v9) (V c main_v13) (V c main_v15) := by
  refine (dat0 V c).arrAt_eq_of_covers 3 _ (by decide +kernel) fun t hf y => ?_
  obtain ⟨s0, s1, s2, s3⟩ := first_steps t
  blk_simp
  rw [after0_3, outsAt0]
  frame_out
  have e1 : ((((View.whole main_v20).slice (win0_3.rect t)).emb y) 1).val = (grid0.coords t 0).val * 4096 + (y 1).val := by
    blk_simp [s3]
  refine block_eq (grid0.coords t) (V c main_v9) (V c main_v13) (V c main_v15) (iblk0 V c 1 t) (iblk0 V c 2 t)
    (View.ld (iblk0 V c 0 t) (Rect.unit ![0] ![1] inb_S2_S1_0) (Shape.Idx.first _))
    (View.ld (iblk0 V c 0 t) (Rect.unit ![1] ![1] inb_S2_S1_1) (Shape.Idx.first _)) y _ ?_ ?_ ?_ ?_ (by blk_simp [s3]) e1
  · refine congrArg (V c main_v13) (funext fun a => Fin.ext ?_)
    revert a
    refine Fin.forall_fin_two.2 ⟨?_, Eq.trans ?_ e1.symm⟩ <;> blk_simp [s1]
  · refine congrArg (V c main_v15) (funext fun a => Fin.ext ?_)
    revert a
    refine Fin.forall_fin_two.2 ⟨?_, Eq.trans ?_ e1.symm⟩ <;> blk_simp [s2]
  · refine congrArg (V c main_v9) (funext fun a => Fin.ext ?_)
    revert a
    refine Fin.forall_fin_one.2 ?_
    blk_simp [s0]
    rfl
  · refine congrArg (V c main_v9) (funext fun a => Fin.ext ?_)
    revert a
    refine Fin.forall_fin_one.2 ?_
    blk_simp [s0]
    rfl

/-- The second call's block positions. -/
theorem second_steps (t : Fin cfg1.N) : win1_0.index t 0 = 0 ∧
    (win1_1.index t 0 = 0 ∧ win1_1.index t 1 = (grid1.coords t 0).val) ∧
    (win1_2.index t 0 = 0 ∧ win1_2.index t 1 = (grid1.coords t 0).val) ∧
    win1_3.index t 0 = 0 ∧ win1_3.index t 1 = (grid1.coords t 0).val := by
  revert t; decide +kernel

/-- The second call leaves its samples. -/
theorem second_drawn (c : Dev nD) : (dat1 V c).arrAt 3 cfg1.N = drawn (V c main_v11) (V c main_v17) (V c main_v19) := by
  refine (dat1 V c).arrAt_eq_of_covers 3 _ (by decide +kernel) fun t hf y => ?_
  obtain ⟨s0, s1, s2, s3⟩ := second_steps t
  blk_simp
  rw [after1_3, outsAt1]
  frame_out
  have e1 : ((((View.whole main_v22).slice (win1_3.rect t)).emb y) 1).val = (grid1.coords t 0).val * 4096 + (y 1).val := by
    blk_simp [s3]
  refine block_eq (grid1.coords t) (V c main_v11) (V c main_v17) (V c main_v19) (iblk1 V c 1 t) (iblk1 V c 2 t)
    (View.ld (iblk1 V c 0 t) (Rect.unit ![0] ![1] inb_S2_S1_0) (Shape.Idx.first _))
    (View.ld (iblk1 V c 0 t) (Rect.unit ![1] ![1] inb_S2_S1_1) (Shape.Idx.first _)) y _ ?_ ?_ ?_ ?_ (by blk_simp [s3]) e1
  · refine congrArg (V c main_v17) (funext fun a => Fin.ext ?_)
    revert a
    refine Fin.forall_fin_two.2 ⟨?_, Eq.trans ?_ e1.symm⟩ <;> blk_simp [s1]
  · refine congrArg (V c main_v19) (funext fun a => Fin.ext ?_)
    revert a
    refine Fin.forall_fin_two.2 ⟨?_, Eq.trans ?_ e1.symm⟩ <;> blk_simp [s2]
  · refine congrArg (V c main_v11) (funext fun a => Fin.ext ?_)
    revert a
    refine Fin.forall_fin_one.2 ?_
    blk_simp [s0]
    rfl
  · refine congrArg (V c main_v11) (funext fun a => Fin.ext ?_)
    revert a
    refine Fin.forall_fin_one.2 ?_
    blk_simp [s0]
    rfl

end Cert.Proof.Kernel

end
-- ==== Proof.KerRun.lean ====
/- What the kernel's two results end holding, sample by sample. -/
module

public import proofs.«01_k».proof.Proof.KerHost
public import proofs.«01_k».proof.Proof.KerArr

@[expose] public section

set_option maxRecDepth 16384

noncomputable section

namespace Cert.Proof.Kernel

open Idealize.ShloMosaic Idealize.ShloMosaic.StableHlo Idealize.SL.Sem Idealize.ShloMosaic.TcCoe
open Cert.KernelIdeal Cert.KernelIdeal.Gen Idealize.ShloMosaic.Pipeline

variable (m : (ℓ : Loc nD τ sig) → Buf (Elt Ideal) ℓ) (ρ : Dev nD → PrngReg) (c : Dev nD)

/-- The flat column of a sample. -/
def column_of (e : Fin 16384) (f : Fin 32) : Fin 524288 := ⟨32 * e.val + f.val, by omega⟩

/-- A flattened row of an array read at a sample's column. -/
theorem flat_row (x : S16384x32.Idx → EReal) (e : Fin 16384) (f : Fin 32) :
    shapeCast S1x524288 x shapeCasts_S16384x32_S1x524288 (ValueIdx.ix2 0 (column_of e f)) = x (ValueIdx.ix2 e f) := by
  refine shapeCast_apply _ _ _ _ ?_
  rw [Shape.rowMajor_val_two, Shape.rowMajor_val_two]
  simp [column_of]
  exact Nat.mul_comm e.val 32

/-- The samples with their columns unflattened. -/
theorem unflat (x : S16x524288.Idx → EReal) (s : Fin 16) (e : Fin 16384) (f : Fin 32) :
    shapeCast S16x16384x32 x shapeCasts_S16x524288_S16x16384x32 (ValueIdx.ix3 s e f) = x (ValueIdx.ix2 s (column_of e f)) := by
  refine shapeCast_apply _ _ _ _ ?_
  rw [Shape.rowMajor_val_three, Shape.rowMajor_val_two]
  show s.val * 524288 + (32 * e.val + f.val) = (s.val * 16384 + e.val) * 32 + f.val
  omega

/-- The first result is the first call's array, reshaped. -/
theorem shaped : W13 m ρ c (Proc.devRef .tc main_v21)
    = shapeCast S16x16384x32 (W12 m ρ c (Proc.devRef .tc main_v20)) shapeCasts_S16x524288_S16x16384x32 := by
  after_results
  rfl

/-- The second result is the second call's array, reshaped. -/
theorem shaped' : W15 m ρ c (Proc.devRef .tc main_v23)
    = shapeCast S16x16384x32 (W14 m ρ c (Proc.devRef .tc main_v22)) shapeCasts_S16x524288_S16x16384x32 := by
  after_results
  rfl

/-- What the first call leaves stays to the end. -/
theorem kept : W15 m ρ c (Proc.devRef .tc main_v21) = W13 m ρ c (Proc.devRef .tc main_v21) :=
  (W15_of m ρ c _ (by decide)).trans (W14_of m ρ c _ (by decide))

/-- What the second call reads is as before the first. -/
theorem passed (r : Ref sig .tc) (h : r ∉ hostOps1_W)
    (h' : ∀ w : Fin cfg0.W, Pipeline.arrRef spec0 w = r → (cfg0.win w).isOut = false) :
    W13 m ρ c (Proc.devRef .tc r) = W11 m ρ c (Proc.devRef .tc r) :=
  (W13_of m ρ c r h).trans (W12_of m ρ c r h')

/-- The sample at an index of a result, from the two tables' rows and the key's number. -/
theorem drawn_apply (k : S2.Idx → BitVec 32) (r : Fin 2) (hk : ∀ j : Fin 2, k (ValueIdx.ix1 j) = keyWord Reference.seed r j)
    (x z : S16384x32.Idx → EReal) (s : Fin 16) (e : Fin 16384) (f : Fin 32) :
    shapeCast S16x16384x32 (drawn k (shapeCast S1x524288 x shapeCasts_S16384x32_S1x524288)
        (shapeCast S1x524288 z shapeCasts_S16384x32_S1x524288)) shapeCasts_S16x524288_S16x16384x32 (ValueIdx.ix3 s e f)
      = sampleOf (x (ValueIdx.ix2 e f)) (z (ValueIdx.ix2 e f))
          (uniformOf (wordAt Reference.seed r (524288 * s.val + 32 * e.val + f.val))) := by
  rw [unflat, drawn]
  show kernelSample (shapeCast S1x524288 x shapeCasts_S16384x32_S1x524288 (ValueIdx.ix2 0 (column_of e f)))
    (shapeCast S1x524288 z shapeCasts_S16384x32_S1x524288 (ValueIdx.ix2 0 (column_of e f)))
    (uniformOf (randomWord (k (ValueIdx.ix1 0)) (k (ValueIdx.ix1 1)) (BitVec.ofNat 32 (524288 * s.val + (32 * e.val + f.val))))) = _
  rw [flat_row, flat_row, hk, hk, samples_eq, ← Nat.add_assoc]
  rfl

/-- The first result. -/
theorem result (s : Fin 16) (e : Fin 16384) (f : Fin 32) :
    W15 m ρ c (Proc.devRef .tc main_v21) (ValueIdx.ix3 s e f)
      = sampleOf (Reference.rows (m ((c.tc : Thread nD τ).loc main_arg0)) (m ((c.tc : Thread nD τ).loc main_arg4)) (ValueIdx.ix2 e f))
          (Reference.rows (m ((c.tc : Thread nD τ).loc main_arg1)) (m ((c.tc : Thread nD τ).loc main_arg4)) (ValueIdx.ix2 e f))
          (uniformOf (wordAt Reference.seed 0 (524288 * s.val + 32 * e.val + f.val))) := by
  have h := before_solved m ρ c
  have hk := key_first h
  simp only [before, solves_append] at h
  obtain ⟨-, -, -, h3, h4, h5, h6, -⟩ := h
  rw [kept, shaped, show W12 m ρ c (Proc.devRef .tc main_v20) = _ from W12_arr m ρ c 3, first_drawn]
  refine Eq.trans ?_ (drawn_apply _ 0 hk _ _ s e f)
  rw [← W11_args m ρ c main_arg0 (by decide), ← W11_args m ρ c main_arg1 (by decide), ← W11_args m ρ c main_arg4 (by decide),
    ← rows_mean h3 h4, ← rows_log h5 h6]

/-- The second result. -/
theorem result' (s : Fin 16) (e : Fin 16384) (f : Fin 32) :
    W15 m ρ c (Proc.devRef .tc main_v23) (ValueIdx.ix3 s e f)
      = sampleOf (Reference.rows' (m ((c.tc : Thread nD τ).loc main_arg2)) (m ((c.tc : Thread nD τ).loc main_arg5)) (ValueIdx.ix2 e f))
          (Reference.rows' (m ((c.tc : Thread nD τ).loc main_arg3)) (m ((c.tc : Thread nD τ).loc main_arg5)) (ValueIdx.ix2 e f))
          (uniformOf (wordAt Reference.seed 1 (524288 * s.val + 32 * e.val + f.val))) := by
  have h := before_solved m ρ c
  have hk := key_second h
  simp only [before, solves_append] at h
  obtain ⟨-, -, -, -, -, -, -, h7, h8, h9, h10⟩ := h
  rw [shaped', show W14 m ρ c (Proc.devRef .tc main_v22) = _ from W14_arr m ρ c 3, second_drawn,
    show V13 m ρ c main_v11 = _ from passed m ρ c main_v11 (by decide) (by decide),
    show V13 m ρ c main_v17 = _ from passed m ρ c main_v17 (by decide) (by decide),
    show V13 m ρ c main_v19 = _ from passed m ρ c main_v19 (by decide) (by decide)]
  refine Eq.trans ?_ (drawn_apply _ 1 hk _ _ s e f)
  rw [← W11_args m ρ c main_arg2 (by decide), ← W11_args m ρ c main_arg3 (by decide), ← W11_args m ρ c main_arg5 (by decide),
    ← rows_mean' h7 h8, ← rows_log' h9 h10]

/-- What the kernel's run ends holding: every argument as it began, and the two results. -/
structure Ends (s : MemSt nD τ sig (Elt Ideal)) : Prop where
  args : ∀ (c : Dev nD), ∀ a ∈ argRefs, s.mem ((c.tc : Thread nD τ).loc a) = m ((c.tc : Thread nD τ).loc a)
  first : ∀ c : Dev nD, s.mem ((c.tc : Thread nD τ).loc main_v21) = W15 m ρ c (Proc.devRef .tc main_v21)
  second : ∀ c : Dev nD, s.mem ((c.tc : Thread nD τ).loc main_v23) = W15 m ρ c (Proc.devRef .tc main_v23)

open Idealize.SL Idealize.SL.RA Idealize.SL.BI
open scoped Idealize.SL.BI
open Idealize.SL.BI.BIBase Idealize.SL.BI.Laws Idealize.SL.ProofMode Idealize.ShloMosaic.Rounds

set_option backward.isDefEq.respectTransparency.types false in
/-- The kernel runs, and ends so. -/
theorem run : θ_run (defs (F := Ideal)) (onTc (τ := τ) (main (F := Ideal))) ⟨m, fun _ => 0, ρ⟩ (fun r => Ends m ρ r.2) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h _ =>
      ⟨fun c a ha => (h c _ (mem_uc a (by revert a; decide))).trans (W15_args m ρ c a ha),
        fun c => h c _ (mem_uc main_v21 (by decide)), fun c => h c _ (mem_uc main_v23 (by decide))⟩)

end Cert.Proof.Kernel

end
-- ==== Proof.lean ====
/- The claims of this certificate: the two programs leave their arguments as they were, and the kernel's two results are
   the reference's, sample by sample. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefMain
public import proofs.«01_k».proof.Proof.KerRun
public import Idealize.ShloMosaic.Adequacy
public import Idealize.ShloMosaic.Init

@[expose] public section

noncomputable section

namespace Cert.Proof

open Idealize.ShloMosaic Idealize.ShloMosaic.StableHlo Idealize.SL.Sem

/-- The reference leaves its arguments as they were; it has no semaphore. -/
theorem reference_frame : Cert.quiescent_ReferenceIdeal := fun m ρ _ =>
  θ_run_mono (Reference.run m ρ) fun r h =>
    ⟨fun c => by
      refine ⟨?_, ?_, ?_, ?_, ?_, ?_⟩ <;> exact (h c _).trans (Reference.contents_arg m c (by decide)),
      funext fun g => match g.2 with
        | .reg s => s.elim0
        | .dma s => s.elim0⟩

/-- The kernel's results are the reference's. -/
theorem results_equal : Cert.algebraic_KernelIdeal_ReferenceIdeal := fun m g m' g' _ ha =>
  ⟨fun c => Cert.KernelIdeal.Gen.W15 m g c (Proc.devRef .tc Cert.KernelIdeal.main_v21),
    fun c => Cert.KernelIdeal.Gen.W15 m g c (Proc.devRef .tc Cert.KernelIdeal.main_v23),
    θ_run_mono (Kernel.run m g) fun r h c =>
      ⟨h.first c, h.second c, h.args c _ (by decide), h.args c _ (by decide), h.args c _ (by decide), h.args c _ (by decide),
        h.args c _ (by decide), h.args c _ (by decide)⟩,
    θ_run_mono (Reference.run m' g') fun r h c => by
      have hs := Reference.contents_solve m' c
      obtain ⟨a0, a1, a2, a3, a4, a5⟩ := ha c
      have ra {b : Ref Cert.ReferenceIdeal.sig .tc} (hb : key b < 6) := Reference.contents_arg m' c (r := b) hb
      refine ⟨(h c _).trans (funext fun i => ?_), (h c _).trans (funext fun i => ?_),
        (h c _).trans (ra (by decide)), (h c _).trans (ra (by decide)), (h c _).trans (ra (by decide)),
        (h c _).trans (ra (by decide)), (h c _).trans (ra (by decide)), (h c _).trans (ra (by decide))⟩
      · obtain ⟨s, e, f, rfl⟩ : ∃ s e f, i = ValueIdx.ix3 s e f := ⟨_, _, _, ValueIdx.eq_ix3 i⟩
        refine (Reference.result hs s e f).trans (Eq.trans ?_ (Kernel.result m g c s e f).symm)
        rw [ra (b := Cert.ReferenceIdeal.main_arg0) (by decide), ra (b := Cert.ReferenceIdeal.main_arg1) (by decide),
          ra (b := Cert.ReferenceIdeal.main_arg4) (by decide), a0, a1, a4]
      · obtain ⟨s, e, f, rfl⟩ : ∃ s e f, i = ValueIdx.ix3 s e f := ⟨_, _, _, ValueIdx.eq_ix3 i⟩
        refine (Reference.result' hs s e f).trans (Eq.trans ?_ (Kernel.result' m g c s e f).symm)
        rw [ra (b := Cert.ReferenceIdeal.main_arg2) (by decide), ra (b := Cert.ReferenceIdeal.main_arg3) (by decide),
          ra (b := Cert.ReferenceIdeal.main_arg5) (by decide), a2, a3, a5]⟩

theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, reference_frame,
    IdealRules.named_const.statement _ _ _ _ _ rfl, results_equal⟩

end Cert.Proof

end
